-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S2048x1024 : Shape := ⟨2, ![2048, 1024]⟩
abbrev S2x4x256x1024 : Shape := ⟨4, ![2, 4, 256, 1024]⟩
abbrev S2x6x256x1024 : Shape := ⟨4, ![2, 6, 256, 1024]⟩
abbrev S2x6x2 : Shape := ⟨3, ![2, 6, 2]⟩
abbrev S_ : Shape := ⟨0, ![]⟩
abbrev S1x512x1024 : Shape := ⟨3, ![1, 512, 1024]⟩
abbrev S512x1024 : Shape := ⟨2, ![512, 1024]⟩
abbrev S256x512 : Shape := ⟨2, ![256, 512]⟩
abbrev S256x1 : Shape := ⟨2, ![256, 1]⟩
abbrev S256x1024 : Shape := ⟨2, ![256, 1024]⟩
abbrev S1x1x256x1024 : Shape := ⟨4, ![1, 1, 256, 1024]⟩
abbrev S1x1x1 : Shape := ⟨3, ![1, 1, 1]⟩
abbrev S1x1x128x1024 : Shape := ⟨4, ![1, 1, 128, 1024]⟩
abbrev S128x1024 : Shape := ⟨2, ![128, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S4x512x1024, .bf16⟩
  | .hbm, ⟨4, _⟩ => ⟨S2048x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S2048x1024, .f32⟩
  | .local _ .vmem, ⟨4, _⟩ => ⟨S4x512x1024, .bf16⟩
  | .local _ .vmem, ⟨5, _⟩ => ⟨S2x4x256x1024, .bf16⟩
  | .local _ .vmem, ⟨6, _⟩ => ⟨S2x6x256x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_29 : BitVec 32 := 1#32
  let v37 : BitVec 32 := Scalar.muli v5 c1_i32_29
  let v38 : BitVec 32 := Scalar.addi c0_i32_30 v37
  v38.toNat
def k0_dev2 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_32 : BitVec 32 := 1#32
  let v39 : BitVec 32 := Scalar.muli v7 c1_i32_32
  let v40 : BitVec 32 := Scalar.addi c0_i32_33 v39
  v40.toNat
def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c4_i32_5 : BitVec 32 := 4#32
  let v9 : BitVec 32 := Scalar.remsi v8 c4_i32_5
  let c256_i32 : BitVec 32 := 256#32
  let v10 : BitVec 32 := Scalar.muli v9 c256_i32
  let v61 : Index := Scalar.indexCast v10
  let c0_55 : Index := 0#32
  ![v61.toNat, 0]
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c0_i32
  let c4_i32_5 : BitVec 32 := 4#32
  let v9 : BitVec 32 := Scalar.remsi v8 c4_i32_5
  let c256_i32 : BitVec 32 := 256#32
  let v10 : BitVec 32 := Scalar.muli v9 c256_i32
  let v64 : Index := Scalar.indexCast v10
  let c0_56 : Index := 0#32
  ![v64.toNat, 0]
def k0_dev3 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_99 : BitVec 32 := 1#32
  let v120 : BitVec 32 := Scalar.muli v7 c1_i32_99
  let v121 : BitVec 32 := Scalar.addi c0_i32_100 v120
  v121.toNat
def k0_dev4 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_115 : BitVec 32 := 1#32
  let v130 : BitVec 32 := Scalar.muli v7 c1_i32_115
  let v131 : BitVec 32 := Scalar.addi c0_i32_116 v130
  v131.toNat
def k0_off3 (d0 : Dev nD) (c0_i32_13 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v20 : BitVec 32 := Scalar.addi v2 c0_i32_13
  let c4_i32_14 : BitVec 32 := 4#32
  let v21 : BitVec 32 := Scalar.remsi v20 c4_i32_14
  let c256_i32_15 : BitVec 32 := 256#32
  let v22 : BitVec 32 := Scalar.muli v21 c256_i32_15
  let v23 : BitVec 32 := Scalar.addi c1024_i32 v22
  let v140 : Index := Scalar.indexCast v23
  let c0_120 : Index := 0#32
  ![v140.toNat, 0]
def k0_off4 (d0 : Dev nD) (c0_i32_13 : BitVec 32) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v20 : BitVec 32 := Scalar.addi v2 c0_i32_13
  let c4_i32_14 : BitVec 32 := 4#32
  let v21 : BitVec 32 := Scalar.remsi v20 c4_i32_14
  let c256_i32_15 : BitVec 32 := 256#32
  let v22 : BitVec 32 := Scalar.muli v21 c256_i32_15
  let v23 : BitVec 32 := Scalar.addi c1024_i32 v22
  let v143 : Index := Scalar.indexCast v23
  let c0_121 : Index := 0#32
  ![v143.toNat, 0]
def k0_dev5 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_165 : BitVec 32 := 1#32
  let v199 : BitVec 32 := Scalar.muli v5 c1_i32_165
  let v200 : BitVec 32 := Scalar.addi c0_i32_166 v199
  v200.toNat
def k0_dev6 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_181 : BitVec 32 := 1#32
  let v209 : BitVec 32 := Scalar.muli v5 c1_i32_181
  let v210 : BitVec 32 := Scalar.addi c0_i32_182 v209
  v210.toNat
def k0_dev7 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_295 : BitVec 32 := 1#32
  let v353 : BitVec 32 := Scalar.muli v7 c1_i32_295
  let v354 : BitVec 32 := Scalar.addi c0_i32_296 v353
  v354.toNat
def k0_dev8 (d0 : Dev nD) : Nat :=
  let c0_i32_340 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_339 : BitVec 32 := 1#32
  let v379 : BitVec 32 := Scalar.muli v5 c1_i32_339
  let v380 : BitVec 32 := Scalar.addi c0_i32_340 v379
  v380.toNat
def k0_dev9 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_382 : BitVec 32 := 1#32
  let v405 : BitVec 32 := Scalar.muli v7 c1_i32_382
  let v406 : BitVec 32 := Scalar.addi c0_i32_383 v405
  v406.toNat
def k0_dev10 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_426 : BitVec 32 := 1#32
  let v431 : BitVec 32 := Scalar.muli v5 c1_i32_426
  let v432 : BitVec 32 := Scalar.addi c0_i32_427 v431
  v432.toNat
def k0_dev11 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_540 : BitVec 32 := 1#32
  let v575 : BitVec 32 := Scalar.muli v7 c1_i32_540
  let v576 : BitVec 32 := Scalar.addi c0_i32_541 v575
  v576.toNat
def k0_dev12 (d0 : Dev nD) : Nat :=
  let c0_i32_585 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_584 : BitVec 32 := 1#32
  let v601 : BitVec 32 := Scalar.muli v5 c1_i32_584
  let v602 : BitVec 32 := Scalar.addi c0_i32_585 v601
  v602.toNat
def k0_dev13 (d0 : Dev nD) : Nat :=
  let c0_i32_629 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_628 : BitVec 32 := 1#32
  let v627 : BitVec 32 := Scalar.muli v7 c1_i32_628
  let v628 : BitVec 32 := Scalar.addi c0_i32_629 v627
  v628.toNat
def k0_dev14 (d0 : Dev nD) : Nat :=
  let c0_i32_673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_672 : BitVec 32 := 1#32
  let v653 : BitVec 32 := Scalar.muli v5 c1_i32_672
  let v654 : BitVec 32 := Scalar.addi c0_i32_673 v653
  v654.toNat
def k0_dev15 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_793 : BitVec 32 := 1#32
  let v807 : BitVec 32 := Scalar.muli v7 c1_i32_793
  let v808 : BitVec 32 := Scalar.addi c0_i32_794 v807
  v808.toNat
def k0_off5 (d0 : Dev nD) (c1_i32_748 : BitVec 32) (c0_i32_799 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v781 : BitVec 32 := Scalar.addi v2 c1_i32_748
  let c4_i32_749 : BitVec 32 := 4#32
  let v782 : BitVec 32 := Scalar.remsi v781 c4_i32_749
  let c256_i32_750 : BitVec 32 := 256#32
  let v783 : BitVec 32 := Scalar.muli v782 c256_i32_750
  let v817 : BitVec 32 := Scalar.addi v783 c0_i32_799
  let v818 : Index := Scalar.indexCast v817
  let c0_800 : Index := 0#32
  ![v818.toNat, 0]
def k0_dev16 (d0 : Dev nD) : Nat :=
  let c0_i32_840 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_839 : BitVec 32 := 1#32
  let v839 : BitVec 32 := Scalar.muli v5 c1_i32_839
  let v840 : BitVec 32 := Scalar.addi c0_i32_840 v839
  v840.toNat
def k0_off6 (d0 : Dev nD) (c3_i32_751 : BitVec 32) (c0_i32_845 : BitVec 32) : Fin 2 → Nat :=
  let c1024_i32_754 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v784 : BitVec 32 := Scalar.addi v2 c3_i32_751
  let c4_i32_752 : BitVec 32 := 4#32
  let v785 : BitVec 32 := Scalar.remsi v784 c4_i32_752
  let c256_i32_753 : BitVec 32 := 256#32
  let v786 : BitVec 32 := Scalar.muli v785 c256_i32_753
  let v787 : BitVec 32 := Scalar.addi c1024_i32_754 v786
  let v849 : BitVec 32 := Scalar.addi v787 c0_i32_845
  let v850 : Index := Scalar.indexCast v849
  let c0_846 : Index := 0#32
  ![v850.toNat, 0]
def k0_dev17 (d0 : Dev nD) : Nat :=
  let c0_i32_893 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_892 : BitVec 32 := 1#32
  let v878 : BitVec 32 := Scalar.muli v7 c1_i32_892
  let v879 : BitVec 32 := Scalar.addi c0_i32_893 v878
  v879.toNat
def k0_dev18 (d0 : Dev nD) : Nat :=
  let c0_i32_939 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_938 : BitVec 32 := 1#32
  let v910 : BitVec 32 := Scalar.muli v5 c1_i32_938
  let v911 : BitVec 32 := Scalar.addi c0_i32_939 v910
  v911.toNat
def k0_dev19 (d0 : Dev nD) : Nat :=
  let c0_i32_973 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_972 : BitVec 32 := 1#32
  let v931 : BitVec 32 := Scalar.muli v7 c1_i32_972
  let v932 : BitVec 32 := Scalar.addi c0_i32_973 v931
  v932.toNat
def k0_dev20 (d0 : Dev nD) : Nat :=
  let c0_i32_1014 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1013 : BitVec 32 := 1#32
  let v958 : BitVec 32 := Scalar.muli v5 c1_i32_1013
  let v959 : BitVec 32 := Scalar.addi c0_i32_1014 v958
  v959.toNat
def k0_dev21 (d0 : Dev nD) : Nat :=
  let c0_i32_1056 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1055 : BitVec 32 := 1#32
  let v986 : BitVec 32 := Scalar.muli v7 c1_i32_1055
  let v987 : BitVec 32 := Scalar.addi c0_i32_1056 v986
  v987.toNat
def k0_dev22 (d0 : Dev nD) : Nat :=
  let c0_i32_1097 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1096 : BitVec 32 := 1#32
  let v1013 : BitVec 32 := Scalar.muli v5 c1_i32_1096
  let v1014 : BitVec 32 := Scalar.addi c0_i32_1097 v1013
  v1014.toNat
def k0_dev23 (d0 : Dev nD) : Nat :=
  let c0_i32_1138 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1137 : BitVec 32 := 1#32
  let v1041 : BitVec 32 := Scalar.muli v7 c1_i32_1137
  let v1042 : BitVec 32 := Scalar.addi c0_i32_1138 v1041
  v1042.toNat
def k0_dev24 (d0 : Dev nD) : Nat :=
  let c0_i32_1178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1177 : BitVec 32 := 1#32
  let v1068 : BitVec 32 := Scalar.muli v5 c1_i32_1177
  let v1069 : BitVec 32 := Scalar.addi c0_i32_1178 v1068
  v1069.toNat
def k0_dev25 (d0 : Dev nD) : Nat :=
  let c0_i32_1220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1219 : BitVec 32 := 1#32
  let v1096 : BitVec 32 := Scalar.muli v7 c1_i32_1219
  let v1097 : BitVec 32 := Scalar.addi c0_i32_1220 v1096
  v1097.toNat
def k0_dev26 (d0 : Dev nD) : Nat :=
  let c0_i32_1261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1260 : BitVec 32 := 1#32
  let v1123 : BitVec 32 := Scalar.muli v5 c1_i32_1260
  let v1124 : BitVec 32 := Scalar.addi c0_i32_1261 v1123
  v1124.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S2048 : Shape := ⟨1, ![2048]⟩
abbrev S1 : Shape := ⟨1, ![1]⟩
abbrev S_ : Shape := ⟨0, ![]⟩
abbrev S1x1 : Shape := ⟨2, ![1, 1]⟩
abbrev S2048x512x1024 : Shape := ⟨3, ![2048, 512, 1024]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S16x512x1024, .bf16⟩
  | .hbm, ⟨4, _⟩ => ⟨S2048x512, .f32⟩
  | .hbm, ⟨5, _⟩ => ⟨S16x512x1024, .f32⟩
  | .hbm, ⟨6, _⟩ => ⟨S2048, .i32⟩
  | .hbm, ⟨7, _⟩ => ⟨S2048x1, .i32⟩
  | .hbm, ⟨8, _⟩ => ⟨S1, .i32⟩
  | .hbm, ⟨9, _⟩ => ⟨S_, .i32⟩
  | .hbm, ⟨10, _⟩ => ⟨S2048x1, .i32⟩
  | .hbm, ⟨11, _⟩ => ⟨S2048x1, .i1⟩
  | .hbm, ⟨12, _⟩ => ⟨S1x1, .i32⟩
  | .hbm, ⟨13, _⟩ => ⟨S2048x1, .i32⟩
  | .hbm, ⟨14, _⟩ => ⟨S2048x1, .i1⟩
  | .hbm, ⟨15, _⟩ => ⟨S2048x1, .i1⟩
  | .hbm, ⟨16, _⟩ => ⟨S_, .i1⟩
  | .hbm, ⟨17, _⟩ => ⟨S2048, .i1⟩
  | .hbm, ⟨18, _⟩ => ⟨S2048x512x1024, .f32⟩
  | .hbm, ⟨19, _⟩ => ⟨S2048x512x1024, .i1⟩
  | .hbm, ⟨20, _⟩ => ⟨S_, .f32⟩
  | .hbm, ⟨21, _⟩ => ⟨S2048x512x1024, .f32⟩
  | .hbm, ⟨22, _⟩ => ⟨S2048x512x1024, .f32⟩
  | .hbm, ⟨23, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.Common.lean ====
/- The four-device mixture-of-experts product: names, windows, contents and the schedule of its semaphores.

Every device computes the partial product of its own four experts for eight chunks of 256 rows, four to each of two
rings (ring 0 passes to the right, ring 1 to the left). A chunk, in halves of 128 rows, is summed while it goes
three hops round its ring and is then handed on three hops more. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

abbrev 𝒱₀ : Variants := Variants.none

/-! ## The rings -/

/-- A transfer: its ring, its hop and which half of the chunk. -/
abbrev I : Type := Fin 2 × Fin 6 × Fin 2
/-- A half chunk of a device's own: ring, position and half. -/
abbrev J : Type := Fin 2 × Fin 4 × Fin 2

set_option backward.proofsInPublic true in
/-- The device `n` hops on in ring `r`. -/
def rot (r : Fin 2) (n : ℕ) (c : Dev nD) : Dev nD := ⟨(c.val + (if r = 0 then n else 3 * n)) % 4, Nat.mod_lt _ (by decide)⟩

abbrev fwd (r : Fin 2) (c : Dev nD) : Dev nD := rot r 1 c
abbrev bwd (r : Fin 2) (c : Dev nD) : Dev nD := rot r 3 c

theorem rot_rot (r : Fin 2) (a b : ℕ) (c : Dev nD) : rot r a (rot r b c) = rot r (a + b) c := by
  apply Fin.ext; unfold rot; dsimp only; split <;> omega
theorem rot_mod (r : Fin 2) (a : ℕ) (c : Dev nD) : rot r a c = rot r (a % 4) c := by
  apply Fin.ext; unfold rot; dsimp only; split <;> omega
theorem rot_four (r : Fin 2) (a : ℕ) (h : a % 4 = 0) (c : Dev nD) : rot r a c = c := by
  rw [rot_mod, h]; apply Fin.ext; unfold rot; dsimp only; have : c.val < 4 := c.isLt; split <;> omega
theorem rot_congr (r : Fin 2) {a b : ℕ} (h : a % 4 = b % 4) (c : Dev nD) : rot r a c = rot r b c := by
  rw [rot_mod, h, ← rot_mod]
theorem fwd_bwd (r : Fin 2) (c : Dev nD) : fwd r (bwd r c) = c := (rot_rot r _ _ c).trans (rot_four _ _ rfl _)
theorem bwd_fwd (r : Fin 2) (c : Dev nD) : bwd r (fwd r c) = c := (rot_rot r _ _ c).trans (rot_four _ _ rfl _)

def ring (r : Fin 2) : Dev nD ≃ Dev nD := ⟨fwd r, bwd r, bwd_fwd r, fwd_bwd r⟩

/-! ## Windows and semaphores -/

abbrev xM : Memref sig .tc .vmem S2048x512 .bf16 := Memref.whole cc0_stg0_0
abbrev iM : Memref sig .tc .vmem S2048x1 .i32 := Memref.whole cc0_stg1_0
abbrev wM : Memref sig .tc .vmem S4x512x1024 .bf16 := Memref.whole cc0_stg2_0
abbrev oM : Memref sig .tc .vmem S2048x1024 .f32 := Memref.whole cc0_stg3_0
abbrev bM : Memref sig .tc .vmem S4x512x1024 .bf16 := Memref.whole cc0_scratch0
abbrev lM : Memref sig .tc .vmem S2x4x256x1024 .bf16 := Memref.whole cc0_scratch1
abbrev rM : Memref sig .tc .vmem S2x6x256x1024 .bf16 := Memref.whole cc0_scratch2

theorem rOff_inb (i : I) : ∀ a, (![i.1.val, i.2.1.val, 128 * i.2.2.val, 0] : Fin 4 → Nat) a + S1x1x128x1024.size a ≤ S2x6x256x1024.size a := by
  revert i; decide +kernel
theorem lOff_inb (j : J) : ∀ a, (![j.1.val, j.2.1.val, 128 * j.2.2.val, 0] : Fin 4 → Nat) a + S1x1x128x1024.size a ≤ S2x4x256x1024.size a := by
  revert j; decide +kernel
theorem cOff_inb (r : Fin 2) (p : Fin 4) : ∀ a, (![r.val, p.val, 0, 0] : Fin 4 → Nat) a + S1x1x256x1024.size a ≤ S2x4x256x1024.size a := by
  revert r p; decide +kernel
theorem xOff_inb (r : Fin 2) (q : Fin 4) : ∀ a, (![1024 * r.val + 256 * q.val, 0] : Fin 2 → Nat) a + S256x512.size a ≤ S2048x512.size a := by
  revert r q; decide +kernel
theorem iOff_inb (r : Fin 2) (q : Fin 4) : ∀ a, (![1024 * r.val + 256 * q.val, 0] : Fin 2 → Nat) a + S256x1.size a ≤ S2048x1.size a := by
  revert r q; decide +kernel
theorem oOff_inb (r : Fin 2) (q : Fin 4) (u : Fin 2) : ∀ a, (![1024 * r.val + 256 * q.val + 128 * u.val, 0] : Fin 2 → Nat) a + S128x1024.size a ≤ S2048x1024.size a := by
  revert r q u; decide +kernel
theorem wOff_inb (j : Fin 4) : ∀ a, (![j.val, 0, 0] : Fin 3 → Nat) a + S1x512x1024.size a ≤ S4x512x1024.size a := by
  revert j; decide +kernel

abbrev rR (i : I) : Rect S2x6x256x1024 := Rect.unit (s := S2x6x256x1024) ![i.1.val, i.2.1.val, 128 * i.2.2.val, 0] S1x1x128x1024.size (rOff_inb i)
abbrev lR (j : J) : Rect S2x4x256x1024 := Rect.unit (s := S2x4x256x1024) ![j.1.val, j.2.1.val, 128 * j.2.2.val, 0] S1x1x128x1024.size (lOff_inb j)
abbrev cR (r : Fin 2) (p : Fin 4) : Rect S2x4x256x1024 := Rect.unit (s := S2x4x256x1024) ![r.val, p.val, 0, 0] S1x1x256x1024.size (cOff_inb r p)
abbrev xR (r : Fin 2) (q : Fin 4) : Rect S2048x512 := Rect.unit (s := S2048x512) ![1024 * r.val + 256 * q.val, 0] S256x512.size (xOff_inb r q)
abbrev iR (r : Fin 2) (q : Fin 4) : Rect S2048x1 := Rect.unit (s := S2048x1) ![1024 * r.val + 256 * q.val, 0] S256x1.size (iOff_inb r q)
abbrev oR (r : Fin 2) (q : Fin 4) (u : Fin 2) : Rect S2048x1024 := Rect.unit (s := S2048x1024) ![1024 * r.val + 256 * q.val + 128 * u.val, 0] S128x1024.size (oOff_inb r q u)
abbrev wR (j : Fin 4) : Rect S4x512x1024 := Rect.unit (s := S4x512x1024) ![j.val, 0, 0] S1x512x1024.size (wOff_inb j)

/-- A transfer's landing window, as the program names it. -/
abbrev rW (i : I) : Memref sig .tc .vmem S128x1024 .bf16 :=
  ((rM : Memref sig .tc .vmem S2x6x256x1024 .bf16).slice (rR i) (fun _ => rfl)).squeeze S128x1024 squeezes_S1x1x128x1024_S128x1024
/-- The window of a half chunk of the device's own. -/
abbrev lW (j : J) : Memref sig .tc .vmem S128x1024 .bf16 :=
  ((lM : Memref sig .tc .vmem S2x4x256x1024 .bf16).slice (lR j) (fun _ => rfl)).squeeze S128x1024 squeezes_S1x1x128x1024_S128x1024

/-- A transfer's number. -/
abbrev no (i : I) : ℕ := 12 * i.1.val + 2 * i.2.1.val + i.2.2.val
theorem no_lt (i : I) : no i < 24 := by unfold no; omega

set_option backward.proofsInPublic true in
def idxOf (n : ℕ) : I := (⟨n / 12 % 2, Nat.mod_lt _ (by decide)⟩, ⟨n / 2 % 6, Nat.mod_lt _ (by decide)⟩, ⟨n % 2, Nat.mod_lt _ (by decide)⟩)
theorem idxOf_no (i : I) : idxOf (no i) = i := by revert i; decide +kernel
theorem no_inj {i j : I} (h : no i = no j) : i = j := by rw [← idxOf_no i, h, idxOf_no]

abbrev barS : Sem sig := (SemArray.scalar (sig.barrier 0 rfl) : Sems sig S_).sem
set_option backward.proofsInPublic true in
def sS (i : I) : DmaSem sig := ⟨4 + no i, by have := no_lt i; show _ < 52; omega⟩
set_option backward.proofsInPublic true in
def rS (i : I) : DmaSem sig := ⟨28 + no i, by have := no_lt i; show _ < 52; omega⟩

abbrev barCell (c : Dev nD) : GSem nD τ sig := ((c : Thread nD τ), .reg barS)
abbrev sCell (c : Dev nD) (i : I) : GSem nD τ sig := ((c : Thread nD τ), .dma (sS i))
abbrev rCell (c : Dev nD) (i : I) : GSem nD τ sig := ((c : Thread nD τ), .dma (rS i))

theorem sem_check : ((cc0_scratch4.slice (Rect.unit (s := S2x6x2) ![1, 0, 0] S1x1x1.size inb_S2x6x2_S1x1x1_1_0_0)).squeeze S_ squeezes_S1x1x1_S_).sem = rS (1, 0, 0) := rfl
theorem win_check : ((Memref.whole cc0_scratch2).slice (Rect.unit (s := S2x6x256x1024) ![1, 0, 0, 0] S1x1x128x1024.size inb_S2x6x256x1024_S1x1x128x1024_1_0_0_0) (fun _ => rfl)).squeeze S128x1024 squeezes_S1x1x128x1024_S128x1024 = rW (1, 0, 0) := rfl

/-- One landing's credit. -/
abbrev N : ℕ := (rW (0, 0, 0)).view.dmaCredit
theorem N_pos : 0 < N := View.dmaCredit_pos _ (by decide)

/-! ## Contents -/

abbrev Xc (c : Dev nD) : (cc0_stg0_0 : Ref sig .tc).ty.Contents (Elt F) :=
  (win0_0.blk (0 : Fin 1)).view.read (Elt F) ((s₀ m ρ).mem ((c : Thread nD τ).loc main_arg0))
abbrev Ic (c : Dev nD) : (cc0_stg1_0 : Ref sig .tc).ty.Contents (Elt F) :=
  (win0_1.blk (0 : Fin 1)).view.read (Elt F) ((s₀ m ρ).mem ((c : Thread nD τ).loc main_arg2))
abbrev Wc (c : Dev nD) : (cc0_stg2_0 : Ref sig .tc).ty.Contents (Elt F) :=
  (win0_2.blk (0 : Fin 1)).view.read (Elt F) ((s₀ m ρ).mem ((c : Thread nD τ).loc main_arg3))

abbrev vdev (c : Dev nD) : BitVec 32 := Scalar.remsi (Scalar.divsi (Dev.word c) 1#32) 4#32

def loc4 (a : Fin 128) (b : Fin 1024) : S1x1x128x1024.Idx := fun | 0 => (0 : Fin 1) | 1 => (0 : Fin 1) | 2 => a | 3 => b
def loc4c (a : Fin 256) (b : Fin 1024) : S1x1x256x1024.Idx := fun | 0 => (0 : Fin 1) | 1 => (0 : Fin 1) | 2 => a | 3 => b
def loc2 (a : Fin 128) (b : Fin 1024) : S128x1024.Idx := fun | 0 => a | 1 => b
def loc3 (a : Fin 512) (b : Fin 1024) : S1x512x1024.Idx := fun | 0 => (0 : Fin 1) | 1 => a | 2 => b

/-- The partial product of one chunk from its rows, its expert numbers and the four matrices. -/
def chunkV (v2 : BitVec 32) (x : Vec F S256x512 .bf16) (e : Vec F S256x1 .i32) (w0 w1 w2 w3 : Vec F S1x512x1024 .bf16) : FVec F S1x1x256x1024 .bf16 :=
  k0_pay10 v2 (k0_pay6 x) (k0_pay7 e) (k0_pay8 v2 x e w0) (k0_pay9 v2 x e) w1 w2 w3

abbrev addV (a b : Vec F S1x1x128x1024 .bf16) : FVec F S1x1x128x1024 .bf16 := k0_pay32 a b
abbrev finV (a b : Vec F S1x1x128x1024 .bf16) : FVec F S128x1024 .f32 := k0_pay57 a b
abbrev finT (a b : Vec F S1x1x128x1024 .bf16) : FVec F S1x1x128x1024 .bf16 := k0_pay58 a b
abbrev extV (a : Vec F S1x1x128x1024 .bf16) : FVec F S128x1024 .f32 := k0_pay65 a

abbrev xV (c : Dev nD) (r : Fin 2) (q : Fin 4) : Vec F S256x512 .bf16 := (xM.access (xR r q) : View sig .tc _ _ _).read (Elt F) (Xc m ρ c)
abbrev iV (c : Dev nD) (r : Fin 2) (q : Fin 4) : Vec F S256x1 .i32 := (iM.access (iR r q) : View sig .tc _ _ _).read (Elt F) (Ic m ρ c)
abbrev wV (c : Dev nD) (j : Fin 4) : Vec F S1x512x1024 .bf16 := (wM.access (wR j) : View sig .tc _ _ _).read (Elt F) (Wc m ρ c)
/-- Expert `j`'s matrix as the device keeps it. -/
abbrev slab (c : Dev nD) (j : Fin 4) : Vec F S1x512x1024 .bf16 := k0_pay1 (wV m ρ c j)

/-- Device `c`'s partial product of chunk `q` of ring `r`, and a half of it. -/
def chunkAt (c : Dev nD) (r : Fin 2) (q : Fin 4) : FVec F S1x1x256x1024 .bf16 :=
  chunkV (vdev c) (xV m ρ c r q) (iV m ρ c r q) (slab m ρ c 0) (slab m ρ c 1) (slab m ρ c 2) (slab m ρ c 3)
set_option backward.proofsInPublic true in
def half (c : Dev nD) (r : Fin 2) (q : Fin 4) (u : Fin 2) : FVec F S1x1x128x1024 .bf16 := fun z =>
  chunkAt m ρ c r q (loc4c ⟨128 * u.val + (z 2).val, by have h : (z 2).val < 128 := (z 2).isLt; omega⟩ (z 3))

def V0 (r : Fin 2) (q : Fin 4) (u : Fin 2) : FVec F S1x1x128x1024 .bf16 := half m ρ q r q u
def V1 (r : Fin 2) (q : Fin 4) (u : Fin 2) : FVec F S1x1x128x1024 .bf16 := addV (half m ρ (rot r 1 q) r q u) (V0 m ρ r q u)
def V2 (r : Fin 2) (q : Fin 4) (u : Fin 2) : FVec F S1x1x128x1024 .bf16 := addV (half m ρ (rot r 2 q) r q u) (V1 m ρ r q u)
def V3 (r : Fin 2) (q : Fin 4) (u : Fin 2) : FVec F S1x1x128x1024 .bf16 := finT (half m ρ (rot r 3 q) r q u) (V2 m ρ r q u)
/-- What hop `k` carries of half `u` of chunk `q` of ring `r`. -/
def VV (k : ℕ) (r : Fin 2) (q : Fin 4) (u : Fin 2) : FVec F S1x1x128x1024 .bf16 :=
  match k with
  | 0 => V0 m ρ r q u
  | 1 => V1 m ρ r q u
  | 2 => V2 m ρ r q u
  | _ => V3 m ρ r q u

set_option backward.proofsInPublic true in
/-- The landing buffer when every transfer has landed. -/
def recvF (c : Dev nD) : (cc0_scratch2 : Ref sig .tc).ty.Contents (Elt F) := fun x =>
  VV m ρ (x 1).val (x 0) (rot (x 0) (3 * ((x 1).val + 1)) c) ⟨(x 2).val / 128, by have h : (x 2).val < 256 := (x 2).isLt; omega⟩
    (loc4 ⟨(x 2).val % 128, Nat.mod_lt _ (by decide)⟩ (x 3))
/-- The device's own partial products. -/
def locF0 (c : Dev nD) : (cc0_scratch1 : Ref sig .tc).ty.Contents (Elt F) := fun x =>
  chunkAt m ρ c (x 0) (rot (x 0) (3 * (x 1).val) c) (loc4c (x 2) (x 3))
set_option backward.proofsInPublic true in
/-- The same buffer as its halves are sent. -/
def locF1 (c : Dev nD) : (cc0_scratch1 : Ref sig .tc).ty.Contents (Elt F) := fun x =>
  VV m ρ (x 1).val (x 0) (rot (x 0) (3 * (x 1).val) c) ⟨(x 2).val / 128, by have h : (x 2).val < 256 := (x 2).isLt; omega⟩
    (loc4 ⟨(x 2).val % 128, Nat.mod_lt _ (by decide)⟩ (x 3))
def wbF (c : Dev nD) : (cc0_scratch0 : Ref sig .tc).ty.Contents (Elt F) := fun x => slab m ρ c (x 0) (loc3 (x 1) (x 2))

/-- Half `u` of chunk `q` of ring `r` of the result on device `c`: its owner keeps the sum, the others widen what lands. -/
def outB (c : Dev nD) (r : Fin 2) (q : Fin 4) (u : Fin 2) : FVec F S128x1024 .f32 :=
  if q = rot r 1 c then finV (half m ρ c r q u) (V2 m ρ r q u) else extV (V3 m ρ r q u)
set_option backward.proofsInPublic true in
def outF (c : Dev nD) : (cc0_stg3_0 : Ref sig .tc).ty.Contents (Elt F) := fun x =>
  have h : (x 0).val < 2048 := (x 0).isLt
  outB m ρ c ⟨(x 0).val / 1024, by omega⟩ ⟨(x 0).val % 1024 / 256, by omega⟩ ⟨(x 0).val % 256 / 128, by omega⟩
    (loc2 ⟨(x 0).val % 128, Nat.mod_lt _ (by decide)⟩ (x 1))

end Cert.KernelIdeal.Moe

end
-- ==== Proof.Sched.lean ====
/- Ownership of the windows, and the schedule of the semaphores: what each unit hands over, what a device owes at
launch, and the levels that order the waits. -/
module

public import proofs.«01_k».proof.Proof.Common

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Windows held -/

def rPts (c : Dev nD) (i : I) (q : PosShare TreeShare) (f : (cc0_scratch2 : Ref sig .tc).ty.Contents (Elt F)) : sProp 𝕄 :=
  (rW i).view.loc (c : Thread nD τ) ↦[(rW i).view.set]{q} f
def lPts (c : Dev nD) (j : J) (f : (cc0_scratch1 : Ref sig .tc).ty.Contents (Elt F)) : sProp 𝕄 :=
  (lW j).view.loc (c : Thread nD τ) ↦[(lW j).view.set]{fullShare} f

omit [FloatOps F] in
instance rPts_storable (c : Dev nD) (i) (q) (f) : BI.Storable (upEmb : UEmb _ 𝕄) (rPts (F := F) c i q f) := by unfold rPts; infer_instance
omit [FloatOps F] in
instance lPts_storable (c : Dev nD) (j) (f) : BI.Storable (upEmb : UEmb _ 𝕄) (lPts (F := F) c j f) := by unfold lPts; infer_instance

/-! ## The schedule -/

/-- What the device `r`-forward of `c` hands `c` at the barrier: its landing windows of ring `r`. -/
def barPay (c : Dev nD) (r : Fin 2) : sProp 𝕄 :=
  bigSep Finset.univ fun ku : Fin 6 × Fin 2 => iprop(∃ f, rPts (fwd r c) (r, ku.1, ku.2) fullShare f)
def recvPay (c : Dev nD) (i : I) : sProp 𝕄 := rPts c i fullShare (recvF m ρ c)
/-- The source of a transfer, as it comes back. -/
def sendPay (c : Dev nD) (i : I) : sProp 𝕄 :=
  match i.2.1 with
  | 0 => lPts c (i.1, 0, i.2.2) (locF1 m ρ c)
  | 1 => lPts c (i.1, 1, i.2.2) (locF1 m ρ c)
  | 2 => lPts c (i.1, 2, i.2.2) (locF1 m ρ c)
  | 3 => lPts c (i.1, 3, i.2.2) (locF1 m ρ c)
  | 4 => rPts c (i.1, 3, i.2.2) fullShare.left (recvF m ρ c)
  | 5 => rPts c (i.1, 4, i.2.2) fullShare.left (recvF m ρ c)

omit [FloatOps F] in
instance barPay_storable (c : Dev nD) (r) : BI.Storable (upEmb : UEmb _ 𝕄) (barPay (F := F) c r) := by unfold barPay; infer_instance
instance recvPay_storable (c : Dev nD) (i) : BI.Storable (upEmb : UEmb _ 𝕄) (recvPay (F := F) m ρ c i) := by unfold recvPay; infer_instance
instance sendPay_storable (c : Dev nD) (i) : BI.Storable (upEmb : UEmb _ 𝕄) (sendPay (F := F) m ρ c i) := by
  unfold sendPay; split <;> infer_instance

/-- One round: a barrier cell has a unit of each neighbour, every transfer's two cells one landing's credit. -/
def Rd : Rounds.Schedule (GSem nD τ sig) (Fin 2) 𝕄 where
  duties g r := if r = 0 ∧ g.1.2 = .tc then
      (match g.2 with
       | .reg _ => Finset.univ
       | .dma s => if s.val < 4 then (∅ : Finset (Fin 2)) else {0})
    else ∅
  unitless _ := False
  amount g _ _ := match g.2 with
    | .reg _ => 1
    | .dma _ => N
  payload g _ d := match g.2 with
    | .reg _ => barPay g.1.1 d
    | .dma s => if s.val < 4 then iprop(emp) else if s.val < 28 then sendPay m ρ g.1.1 (idxOf (s.val - 4)) else recvPay m ρ g.1.1 (idxOf (s.val - 28))
  amount_pos g _ _ _ := by
    split
    · exact Nat.one_pos
    · exact N_pos

instance Rd_payload_storable (g : GSem nD τ sig) (r : ℕ) (d : Fin 2) :
    BI.Storable (upEmb : UEmb _ 𝕄) ((Rd (F := F) m ρ).payload g r d) := by
  show BI.Storable upEmb (match g.2 with
    | .reg _ => barPay g.1.1 d
    | .dma s => if s.val < 4 then iprop(emp) else if s.val < 28 then sendPay m ρ g.1.1 (idxOf (s.val - 4)) else recvPay m ρ g.1.1 (idxOf (s.val - 28)))
  (repeat' split) <;> infer_instance

section Tables
variable (c : Dev nD) (i : I)

theorem sS_val : (sS i).val = 4 + no i := rfl
theorem rS_val : (rS i).val = 28 + no i := rfl
theorem sS_inj {i j : I} (h : sS i = sS j) : i = j := by
  have := congrArg (fun s : DmaSem sig => s.val) h; simp only [sS_val] at this; exact no_inj (by omega)
theorem rS_inj {i j : I} (h : rS i = rS j) : i = j := by
  have := congrArg (fun s : DmaSem sig => s.val) h; simp only [rS_val] at this; exact no_inj (by omega)
theorem sS_ne_rS (i j : I) : sS i ≠ rS j := fun h => by
  have := congrArg (fun s : DmaSem sig => s.val) h; simp only [sS_val, rS_val] at this
  have := no_lt i; omega

theorem duties_bar : (Rd (F := F) m ρ).duties (barCell c) 0 = Finset.univ := rfl
theorem duties_s : (Rd (F := F) m ρ).duties (sCell c i) 0 = {0} := by
  dsimp only [Rd]
  rw [if_pos ⟨rfl, rfl⟩, if_neg (by rw [sS_val]; omega)]
theorem duties_r : (Rd (F := F) m ρ).duties (rCell c i) 0 = {0} := by
  dsimp only [Rd]
  rw [if_pos ⟨rfl, rfl⟩, if_neg (by rw [rS_val]; omega)]
theorem duties_later (g : GSem nD τ sig) : ∀ r, 1 ≤ r → (Rd (F := F) m ρ).duties g r = ∅ :=
  fun r hr => if_neg fun h => by omega

theorem amount_bar (d : Fin 2) : (Rd (F := F) m ρ).amount (barCell c) 0 d = 1 := rfl
theorem amount_s (d : Fin 2) : (Rd (F := F) m ρ).amount (sCell c i) 0 d = N := rfl
theorem amount_r (d : Fin 2) : (Rd (F := F) m ρ).amount (rCell c i) 0 d = N := rfl

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_fin, smul_eq_mul]
theorem expect_s : (Rd (F := F) m ρ).expect (sCell c i) 0 = N := by
  unfold Schedule.expect Schedule.amountOf; rw [duties_s, Finset.sum_singleton, amount_s]
theorem expect_r : (Rd (F := F) m ρ).expect (rCell c i) 0 = N := by
  unfold Schedule.expect Schedule.amountOf; rw [duties_r, Finset.sum_singleton, amount_r]

theorem payload_bar (d : Fin 2) : (Rd (F := F) m ρ).payload (barCell c) 0 d = barPay c d := rfl
theorem payload_s (d : Fin 2) : (Rd (F := F) m ρ).payload (sCell c i) 0 d = sendPay m ρ c i := by
  show (if (sS i).val < 4 then iprop(emp) else if (sS i).val < 28 then sendPay m ρ c (idxOf ((sS i).val - 4)) else recvPay m ρ c (idxOf ((sS i).val - 28))) = _
  have := no_lt i
  rw [if_neg (by rw [sS_val]; omega), if_pos (by rw [sS_val]; omega), show (sS i).val - 4 = no i by rw [sS_val]; omega, idxOf_no]
theorem payload_r (d : Fin 2) : (Rd (F := F) m ρ).payload (rCell c i) 0 d = recvPay m ρ c i := by
  show (if (rS i).val < 4 then iprop(emp) else if (rS i).val < 28 then sendPay m ρ c (idxOf ((rS i).val - 4)) else recvPay m ρ c (idxOf ((rS i).val - 28))) = _
  rw [if_neg (by rw [rS_val]; omega), if_neg (by rw [rS_val]; omega), show (rS i).val - 28 = no i by rw [rS_val]; omega, idxOf_no]

theorem rest_bar : bigSep ((Rd (F := F) m ρ).duties (barCell c) 0 \ ∅) (fun d => (Rd (F := F) m ρ).payload (barCell c) 0 d) = iprop(barPay c 0 ∗ barPay c 1) := by
  rw [Finset.sdiff_empty, duties_bar]
  exact BI.bigSep_fin_two _
theorem rest_s : bigSep ((Rd (F := F) m ρ).duties (sCell c i) 0 \ ∅) (fun d => (Rd (F := F) m ρ).payload (sCell c i) 0 d) = sendPay m ρ c i := by
  rw [Finset.sdiff_empty, duties_s, bigSep_singleton, payload_s]
theorem rest_r : bigSep ((Rd (F := F) m ρ).duties (rCell c i) 0 \ ∅) (fun d => (Rd (F := F) m ρ).payload (rCell c i) 0 d) = recvPay m ρ c i := by
  rw [Finset.sdiff_empty, duties_r, bigSep_singleton, payload_r]

end Tables

/-! ## The order of the transfers -/

/-- Where a transfer stands among a device's sends, and among its waits for landings. -/
def srank (i : I) : ℕ := if i.2.1 = 0 then 2 * i.1.val + i.2.2.val else 4 * i.2.1.val + 2 * i.2.2.val + i.1.val
def rrank (i : I) : ℕ := 4 * i.2.1.val + 2 * i.2.2.val + i.1.val

theorem srank_inj : ∀ i j : I, srank i = srank j → i = j := by decide +kernel
theorem rrank_inj : ∀ i j : I, rrank i = rrank j → i = j := by decide +kernel

/-- The elements ranked from `n` on, and those before. -/
def from_ {α : Type} [Fintype α] (rk : α → ℕ) (n : ℕ) : Finset α := Finset.univ.filter fun a => n ≤ rk a
def upto {α : Type} [Fintype α] (rk : α → ℕ) (n : ℕ) : Finset α := Finset.univ.filter fun a => rk a < n

theorem from_succ {α : Type} [Fintype α] [DecidableEq α] {rk : α → ℕ} (hr : ∀ a b, rk a = rk b → a = b) {a : α} {n : ℕ} (h : rk a = n) :
    from_ rk n = insert a (from_ rk (n + 1)) := by
  ext b
  simp only [from_, Finset.mem_insert, Finset.mem_filter, Finset.mem_univ, _root_.true_and]
  constructor
  · intro hb
    rcases Nat.lt_or_ge n (rk b) with h' | h'
    · exact Or.inr h'
    · exact Or.inl (hr b a (by omega))
  · rintro (rfl | hb) <;> omega
theorem not_mem_from {α : Type} [Fintype α] {rk : α → ℕ} {a : α} {n : ℕ} (h : rk a = n) : a ∉ from_ rk (n + 1) := by
  simp only [from_, Finset.mem_filter, Finset.mem_univ, _root_.true_and]; omega
theorem upto_succ {α : Type} [Fintype α] [DecidableEq α] {rk : α → ℕ} (hr : ∀ a b, rk a = rk b → a = b) {a : α} {n : ℕ} (h : rk a = n) :
    upto rk (n + 1) = insert a (upto rk n) := by
  ext b
  simp only [upto, Finset.mem_insert, Finset.mem_filter, Finset.mem_univ, _root_.true_and]
  constructor
  · intro hb
    rcases Nat.lt_or_ge (rk b) n with h' | h'
    · exact Or.inr h'
    · exact Or.inl (hr b a (by omega))
  · rintro (rfl | hb) <;> omega
theorem not_mem_upto {α : Type} [Fintype α] {rk : α → ℕ} {a : α} {n : ℕ} (h : rk a = n) : a ∉ upto rk n := by
  simp only [upto, Finset.mem_filter, Finset.mem_univ, _root_.true_and]; omega

/-- What is sent and not yet waited for: the first `s` sends less the first `f` numbers. -/
def flight (s f : ℕ) : Finset I := Finset.univ.filter fun i => srank i < s ∧ f ≤ no i

theorem flight_send {i : I} {s : ℕ} (h : srank i = s) : flight (s + 1) 0 = insert i (flight s 0) := by
  ext b
  simp only [flight, Finset.mem_insert, Finset.mem_filter, Finset.mem_univ, _root_.true_and]
  constructor
  · intro hb
    rcases Nat.lt_or_ge (srank b) s with h' | h'
    · exact Or.inr ⟨h', hb.2⟩
    · exact Or.inl (srank_inj b i (by omega))
  · rintro (rfl | hb)
    · exact ⟨by omega, Nat.zero_le _⟩
    · exact ⟨by omega, hb.2⟩
theorem not_mem_flight {i : I} {s f : ℕ} (h : srank i = s) : i ∉ flight s f := by
  simp only [flight, Finset.mem_filter, Finset.mem_univ, _root_.true_and]; omega
theorem flight_wait {i : I} {f : ℕ} (h : no i = f) : flight 24 f = insert i (flight 24 (f + 1)) := by
  ext b
  simp only [flight, Finset.mem_insert, Finset.mem_filter, Finset.mem_univ, _root_.true_and]
  constructor
  · intro hb
    rcases Nat.lt_or_ge f (no b) with h' | h'
    · exact Or.inr ⟨hb.1, h'⟩
    · exact Or.inl (no_inj (by omega))
  · rintro (rfl | hb)
    · exact ⟨by unfold srank; split <;> omega, by omega⟩
    · exact ⟨hb.1, by omega⟩
theorem not_mem_flight' {i : I} {f : ℕ} (h : no i = f) : i ∉ flight 24 (f + 1) := by
  simp only [flight, Finset.mem_filter, Finset.mem_univ, _root_.true_and]; omega

/-! ## What a device owes; the levels -/

/-- The landings device `c` still owes after `s` sends. -/
def owed (c : Dev nD) (s : ℕ) : CellTallies nD τ sig Unit := ∑ i ∈ from_ srank s, tallyAt (rCell (fwd i.1 c) i) () N
def O₁ (c : Dev nD) : CellTallies nD τ sig Unit := owed c 0 + tallyAt (barCell (bwd 1 c)) () 1
def O₀ (c : Dev nD) : CellTallies nD τ sig Unit := O₁ c + tallyAt (barCell (bwd 0 c)) () 1

theorem owed_succ (c : Dev nD) {i : I} {s : ℕ} (h : srank i = s) : owed c s = owed c (s + 1) + tallyAt (rCell (fwd i.1 c) i) () N := by
  unfold owed
  rw [from_succ srank_inj h, Finset.sum_insert (not_mem_from h), add_comm]
theorem owed_end (c : Dev nD) : owed c 24 = 0 := by
  unfold owed
  rw [show from_ srank 24 = ∅ from by decide +kernel, Finset.sum_empty]

def L (g : GSem nD τ sig) : Finset Unit := if g.1.2 = .tc then {()} else ∅
/-- A landing's level is above its hop's, the barrier's below every landing's, the rest's below that. -/
def lv (g : GSem nD τ sig) (_ : Unit) : ℕ := match g.2 with
  | .reg _ => 1
  | .dma s => if s.val < 28 then 0 else 2 + (idxOf (s.val - 28)).2.1.val

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (i : I) (u : Unit) : lv (rCell c i) u = 2 + i.2.1.val := by
  show (if (rS i).val < 28 then 0 else 2 + (idxOf ((rS i).val - 28)).2.1.val) = _
  rw [if_neg (by rw [rS_val]; omega), show (rS i).val - 28 = no i by rw [rS_val]; omega, idxOf_no]

theorem owed_pos {c : Dev nD} {s : ℕ} {g : GSem nD τ sig} {u : Unit} (h : 0 < owed c s g u) :
    ∃ i, s ≤ srank i ∧ g = rCell (fwd i.1 c) i := by
  unfold owed at h
  rw [Finset.sum_apply, Finsupp.finset_sum_apply] at h
  obtain ⟨i, hi, hi'⟩ := Finset.exists_ne_zero_of_sum_ne_zero (Nat.pos_iff_ne_zero.mp h)
  refine ⟨i, ?_, ?_⟩
  · simp only [from_, Finset.mem_filter, Finset.mem_univ, _root_.true_and] at hi; exact hi
  · rw [tallyAt_apply] at hi'
    by_contra hn
    rw [if_neg fun h' => hn h'.1] at hi'
    exact hi' rfl

theorem O₀_pos {c : Dev nD} {g : GSem nD τ sig} {u : Unit} (h : 0 < O₀ c g u) :
    (∃ c' i, g = rCell c' i) ∨ ∃ c', g = barCell c' := by
  unfold O₀ O₁ at h
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  obtain ⟨i, -, hi⟩ := owed_pos (c := c) (s := 0) (g := g) (u := u) (by omega)
  exact hn.1 ⟨_, i, hi⟩

omit [FloatOps F] in
theorem mayWait_low (c : Dev nD) (q : DmaSem sig) (hq : q.val < 28) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨c', i, rfl⟩ | ⟨c', rfl⟩ <;> exact Finset.mem_singleton_self _)
      (fun p hp => by rw [Finset.mem_singleton.mp hp]; dsimp only [lv]; rw [if_pos hq])
      (fun g u hg => by
        rcases O₀_pos hg with ⟨c', i, rfl⟩ | ⟨c', rfl⟩
        · rw [lv_r]; omega
        · exact Nat.one_pos)
  · rw [MayWait_zero]; iintro -; iempintro

omit [FloatOps F] in
/-- At the barrier a device owes landings only. -/
theorem mayWait_bar (c : Dev nD) :
    (levAts L lv : sProp 𝕄) ⊢ MayWait (c : Thread nD τ) (.reg barS) () (owed c 0) :=
  MayOwe.of_cut (L := L) (lev := lv) 1 (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_refl _)
    (fun g u hg => by obtain ⟨i, -, rfl⟩ := owed_pos hg; rw [lv_r]; omega)

omit [FloatOps F] in
/-- At the wait for a landing of hop `k` a device owes landings of later hops only. -/
theorem mayWait_recv (c : Dev nD) (i : I) (s : ℕ) (hs : 4 * (i.2.1.val + 1) ≤ s) :
    (levAts L lv : sProp 𝕄) ⊢ MayWait (c : Thread nD τ) (.dma (rS i)) () (owed c s) :=
  MayOwe.of_cut (L := L) (lev := lv) (2 + i.2.1.val) (fun p hp => by rw [Finset.mem_singleton.mp hp, L_tc]; exact Finset.mem_singleton_self _)
    (fun g u hg => by obtain ⟨i, -, rfl⟩ := owed_pos hg; exact Finset.mem_singleton_self _)
    (fun p hp => by rw [Finset.mem_singleton.mp hp]; exact le_of_eq (lv_r c i ()))
    (fun g u hg => by
      obtain ⟨j, hj, rfl⟩ := owed_pos hg; rw [lv_r]
      unfold srank at hj; split at hj <;> omega)

end Cert.KernelIdeal.Moe

end
-- ==== Proof.Contents.lean ====
/- The buffers' contents at an element of a window: the value that window holds. -/
module

public import proofs.«01_k».proof.Proof.Sched

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Positions inside a window -/

omit [FloatOps F] in
theorem loc4_eta (z : S1x1x128x1024.Idx) (a : Fin 128) (b : Fin 1024) (ha : a.val = (z 2).val) (hb : b.val = (z 3).val) : loc4 a b = z := by
  funext k
  have h0 : (z 0).val < 1 := (z 0).isLt
  have h1 : (z 1).val < 1 := (z 1).isLt
  apply Fin.ext
  fin_cases k
  · show 0 = (z 0).val; omega
  · show 0 = (z 1).val; omega
  · exact ha
  · exact hb
omit [FloatOps F] in
theorem loc4c_eta (z : S1x1x256x1024.Idx) (a : Fin 256) (b : Fin 1024) (ha : a.val = (z 2).val) (hb : b.val = (z 3).val) : loc4c a b = z := by
  funext k
  have h0 : (z 0).val < 1 := (z 0).isLt
  have h1 : (z 1).val < 1 := (z 1).isLt
  apply Fin.ext
  fin_cases k
  · show 0 = (z 0).val; omega
  · show 0 = (z 1).val; omega
  · exact ha
  · exact hb
omit [FloatOps F] in
theorem loc3_eta (z : S1x512x1024.Idx) (a : Fin 512) (b : Fin 1024) (ha : a.val = (z 1).val) (hb : b.val = (z 2).val) : loc3 a b = z := by
  funext k
  have h0 : (z 0).val < 1 := (z 0).isLt
  apply Fin.ext
  fin_cases k
  · show 0 = (z 0).val; omega
  · exact ha
  · exact hb
omit [FloatOps F] in
theorem loc2_eta (z : S128x1024.Idx) (a : Fin 128) (b : Fin 1024) (ha : a.val = (z 0).val) (hb : b.val = (z 1).val) : loc2 a b = z := by
  funext k
  apply Fin.ext
  fin_cases k
  · exact ha
  · exact hb

theorem VV_congr {k k' : ℕ} {r r' : Fin 2} {q q' : Fin 4} {u u' : Fin 2} {z z' : S1x1x128x1024.Idx}
    (hk : k = k') (hr : r = r') (hq : q = q') (hu : u = u') (hz : z = z') : VV m ρ k r q u z = VV m ρ k' r' q' u' z' := by
  subst hk hr hq hu hz; rfl
theorem chunkAt_congr {c : Dev nD} {r r' : Fin 2} {q q' : Fin 4} {z z' : S1x1x256x1024.Idx}
    (hr : r = r') (hq : q = q') (hz : z = z') : chunkAt m ρ c r q z = chunkAt m ρ c r' q' z' := by
  subst hr hq hz; rfl
theorem outB_congr {c : Dev nD} {r r' : Fin 2} {q q' : Fin 4} {u u' : Fin 2} {z z' : S128x1024.Idx}
    (hr : r = r') (hq : q = q') (hu : u = u') (hz : z = z') : outB m ρ c r q u z = outB m ρ c r' q' u' z' := by
  subst hr hq hu hz; rfl
theorem slab_congr {c : Dev nD} {j j' : Fin 4} {z z' : S1x512x1024.Idx} (hj : j = j') (hz : z = z') : slab m ρ c j z = slab m ρ c j' z' := by
  subst hj hz; rfl

omit [FloatOps F] in
theorem rot_congr' {r r' : Fin 2} {a a' : ℕ} (c : Dev nD) (hr : r = r') (ha : a = a') : rot r a c = rot r' a' c := by subst hr ha; rfl

theorem recvF_emb (c : Dev nD) (i : I) (z : S1x1x128x1024.Idx) :
    recvF m ρ c ((rR i).emb z) = VV m ρ i.2.1.val i.1 (rot i.1 (3 * (i.2.1.val + 1)) c) i.2.2 z := by
  have h0 : (z 0).val < 1 := (z 0).isLt
  have h1 : (z 1).val < 1 := (z 1).isLt
  have h2 : (z 2).val < 128 := (z 2).isLt
  have e0 : ((rR i).emb z 0).val = i.1.val + 1 * (z 0).val := Rect.emb_apply _ _ _
  have e1 : ((rR i).emb z 1).val = i.2.1.val + 1 * (z 1).val := Rect.emb_apply _ _ _
  have e2 : ((rR i).emb z 2).val = 128 * i.2.2.val + 1 * (z 2).val := Rect.emb_apply _ _ _
  have e3 : ((rR i).emb z 3).val = 0 + 1 * (z 3).val := Rect.emb_apply _ _ _
  have hr : (rR i).emb z 0 = i.1 := Fin.ext (by rw [e0]; omega)
  have hk : ((rR i).emb z 1).val = i.2.1.val := by rw [e1]; omega
  unfold recvF
  refine VV_congr m ρ hk hr (rot_congr' c hr (by rw [hk])) (Fin.ext ?_) (loc4_eta _ _ _ ?_ ?_)
  · show ((rR i).emb z 2).val / 128 = _; rw [e2]; omega
  · show ((rR i).emb z 2).val % 128 = _; rw [e2]; omega
  · rw [e3]; omega

theorem locF1_emb (c : Dev nD) (j : J) (z : S1x1x128x1024.Idx) :
    locF1 m ρ c ((lR j).emb z) = VV m ρ j.2.1.val j.1 (rot j.1 (3 * j.2.1.val) c) j.2.2 z := by
  have h0 : (z 0).val < 1 := (z 0).isLt
  have h1 : (z 1).val < 1 := (z 1).isLt
  have h2 : (z 2).val < 128 := (z 2).isLt
  have e0 : ((lR j).emb z 0).val = j.1.val + 1 * (z 0).val := Rect.emb_apply _ _ _
  have e1 : ((lR j).emb z 1).val = j.2.1.val + 1 * (z 1).val := Rect.emb_apply _ _ _
  have e2 : ((lR j).emb z 2).val = 128 * j.2.2.val + 1 * (z 2).val := Rect.emb_apply _ _ _
  have e3 : ((lR j).emb z 3).val = 0 + 1 * (z 3).val := Rect.emb_apply _ _ _
  have hr : (lR j).emb z 0 = j.1 := Fin.ext (by rw [e0]; omega)
  have hk : ((lR j).emb z 1).val = j.2.1.val := by rw [e1]; omega
  unfold locF1
  refine VV_congr m ρ hk hr (rot_congr' c hr (by rw [hk])) (Fin.ext ?_) (loc4_eta _ _ _ ?_ ?_)
  · show ((lR j).emb z 2).val / 128 = _; rw [e2]; omega
  · show ((lR j).emb z 2).val % 128 = _; rw [e2]; omega
  · rw [e3]; omega

theorem locF0_emb_chunk (c : Dev nD) (r : Fin 2) (p : Fin 4) (z : S1x1x256x1024.Idx) :
    locF0 m ρ c ((cR r p).emb z) = chunkAt m ρ c r (rot r (3 * p.val) c) z := by
  have h0 : (z 0).val < 1 := (z 0).isLt
  have h1 : (z 1).val < 1 := (z 1).isLt
  have e0 : ((cR r p).emb z 0).val = r.val + 1 * (z 0).val := Rect.emb_apply _ _ _
  have e1 : ((cR r p).emb z 1).val = p.val + 1 * (z 1).val := Rect.emb_apply _ _ _
  have e2 : ((cR r p).emb z 2).val = 0 + 1 * (z 2).val := Rect.emb_apply _ _ _
  have e3 : ((cR r p).emb z 3).val = 0 + 1 * (z 3).val := Rect.emb_apply _ _ _
  have hr : (cR r p).emb z 0 = r := Fin.ext (by rw [e0]; omega)
  have hk : ((cR r p).emb z 1).val = p.val := by rw [e1]; omega
  unfold locF0
  exact chunkAt_congr m ρ hr (rot_congr' c hr (by rw [hk])) (loc4c_eta _ _ _ (by rw [e2]; omega) (by rw [e3]; omega))

theorem locF0_emb (c : Dev nD) (j : J) (z : S1x1x128x1024.Idx) :
    locF0 m ρ c ((lR j).emb z) = half m ρ c j.1 (rot j.1 (3 * j.2.1.val) c) j.2.2 z := by
  have h0 : (z 0).val < 1 := (z 0).isLt
  have h1 : (z 1).val < 1 := (z 1).isLt
  have e0 : ((lR j).emb z 0).val = j.1.val + 1 * (z 0).val := Rect.emb_apply _ _ _
  have e1 : ((lR j).emb z 1).val = j.2.1.val + 1 * (z 1).val := Rect.emb_apply _ _ _
  have e2 : ((lR j).emb z 2).val = 128 * j.2.2.val + 1 * (z 2).val := Rect.emb_apply _ _ _
  have e3 : ((lR j).emb z 3).val = 0 + 1 * (z 3).val := Rect.emb_apply _ _ _
  have hr : (lR j).emb z 0 = j.1 := Fin.ext (by rw [e0]; omega)
  have hk : ((lR j).emb z 1).val = j.2.1.val := by rw [e1]; omega
  unfold locF0 half
  refine chunkAt_congr m ρ hr (rot_congr' c hr (by rw [hk])) (loc4c_eta _ _ _ ?_ ?_)
  · rw [e2]; show _ = 128 * j.2.2.val + (z 2).val; omega
  · rw [e3]; show _ = (z 3).val; omega

/-- Position 0 is sent as computed. -/
theorem locF1_first (c : Dev nD) (r u : Fin 2) (z : S1x1x128x1024.Idx) :
    locF1 m ρ c ((lR (r, 0, u)).emb z) = locF0 m ρ c ((lR (r, 0, u)).emb z) := by
  rw [locF1_emb, locF0_emb]
  show half m ρ (rot r 0 c) r (rot r 0 c) u z = half m ρ c r (rot r 0 c) u z
  rw [rot_four r 0 rfl]

theorem wbF_emb (c : Dev nD) (j : Fin 4) (z : S1x512x1024.Idx) : wbF m ρ c ((wR j).emb z) = slab m ρ c j z := by
  have h0 : (z 0).val < 1 := (z 0).isLt
  have e0 : ((wR j).emb z 0).val = j.val + 1 * (z 0).val := Rect.emb_apply _ _ _
  have e1 : ((wR j).emb z 1).val = 0 + 1 * (z 1).val := Rect.emb_apply _ _ _
  have e2 : ((wR j).emb z 2).val = 0 + 1 * (z 2).val := Rect.emb_apply _ _ _
  unfold wbF
  exact slab_congr m ρ (Fin.ext (by rw [e0]; omega)) (loc3_eta _ _ _ (by rw [e1]; omega) (by rw [e2]; omega))

theorem outF_emb (c : Dev nD) (r : Fin 2) (q : Fin 4) (u : Fin 2) (z : S128x1024.Idx) :
    outF m ρ c ((oR r q u).emb z) = outB m ρ c r q u z := by
  have h0 : (z 0).val < 128 := (z 0).isLt
  have e0 : ((oR r q u).emb z 0).val = (1024 * r.val + 256 * q.val + 128 * u.val) + 1 * (z 0).val := Rect.emb_apply _ _ _
  have e1 : ((oR r q u).emb z 1).val = 0 + 1 * (z 1).val := Rect.emb_apply _ _ _
  unfold outF
  refine outB_congr m ρ (Fin.ext ?_) (Fin.ext ?_) (Fin.ext ?_) (loc2_eta _ _ _ ?_ ?_)
  · show ((oR r q u).emb z 0).val / 1024 = _; rw [e0]; omega
  · show ((oR r q u).emb z 0).val % 1024 / 256 = _; rw [e0]; omega
  · show ((oR r q u).emb z 0).val % 256 / 128 = _; rw [e0]; omega
  · show ((oR r q u).emb z 0).val % 128 = _; rw [e0]; omega
  · rw [e1]; omega

/-! ## What a transfer carries -/

/-- The landing of a half chunk is what the next device's landing buffer holds there. -/
theorem carry_loc (c : Dev nD) (r : Fin 2) (p : Fin 4) (k : Fin 6) (hk : k.val = p.val) (u : Fin 2) (z : S1x1x128x1024.Idx) :
    recvF m ρ (fwd r c) ((rR (r, k, u)).emb z) = locF1 m ρ c ((lR (r, p, u)).emb z) := by
  rw [recvF_emb, locF1_emb]
  refine VV_congr m ρ hk rfl ?_ rfl rfl
  show rot r (3 * (k.val + 1)) (rot r 1 c) = rot r (3 * p.val) c
  rw [rot_rot]; exact rot_congr r (by omega) c

theorem carry_recv (c : Dev nD) (r : Fin 2) (k k' : Fin 6) (hk : k'.val = k.val + 1) (h3 : 3 ≤ k.val) (u : Fin 2) (z : S1x1x128x1024.Idx) :
    recvF m ρ (fwd r c) ((rR (r, k', u)).emb z) = recvF m ρ c ((rR (r, k, u)).emb z) := by
  rw [recvF_emb, recvF_emb]
  have hv : ∀ n : ℕ, 3 ≤ n → ∀ r q u, VV m ρ n r q u = V3 m ρ r q u := fun n hn => match n, hn with
    | n + 3, _ => fun _ _ _ => rfl
  show VV m ρ k'.val r _ u z = VV m ρ k.val r _ u z
  rw [hv k'.val (by omega), hv k.val h3]
  show V3 m ρ r (rot r (3 * (k'.val + 1)) (rot r 1 c)) u z = V3 m ρ r (rot r (3 * (k.val + 1)) c) u z
  rw [rot_rot, rot_congr r (show (3 * (k'.val + 1) + 1) % 4 = (3 * (k.val + 1)) % 4 by omega) c]

/-- The sum stored at position `p + 1` is what is sent from there. -/
theorem sum_step (c : Dev nD) (r : Fin 2) (u : Fin 2) :
    (addV (half m ρ c r (rot r 3 c) u) (VV m ρ 0 r (rot r 3 c) u) = VV m ρ 1 r (rot r 3 c) u)
    ∧ (addV (half m ρ c r (rot r 6 c) u) (VV m ρ 1 r (rot r 6 c) u) = VV m ρ 2 r (rot r 6 c) u)
    ∧ (finT (half m ρ c r (rot r 9 c) u) (VV m ρ 2 r (rot r 9 c) u) = VV m ρ 3 r (rot r 9 c) u) := by
  refine ⟨?_, ?_, ?_⟩
  · show _ = addV (half m ρ (rot r 1 (rot r 3 c)) r (rot r 3 c) u) (V0 m ρ r (rot r 3 c) u)
    rw [rot_rot, rot_four r (1 + 3) rfl]; rfl
  · show _ = addV (half m ρ (rot r 2 (rot r 6 c)) r (rot r 6 c) u) (V1 m ρ r (rot r 6 c) u)
    rw [rot_rot, rot_four r (2 + 6) rfl]; rfl
  · show _ = finT (half m ρ (rot r 3 (rot r 9 c)) r (rot r 9 c) u) (V2 m ρ r (rot r 9 c) u)
    rw [rot_rot, rot_four r (3 + 9) rfl]; rfl

theorem outB_own (c : Dev nD) (r u : Fin 2) : outB m ρ c r (rot r 9 c) u = finV (half m ρ c r (rot r 9 c) u) (VV m ρ 2 r (rot r 9 c) u) := by
  unfold outB; rw [if_pos (rot_congr r (show 9 % 4 = 1 % 4 from rfl) c)]; rfl
theorem outB_other (c : Dev nD) (r u : Fin 2) (k : ℕ) (hk : 3 ≤ k) (hk' : k ≤ 5) :
    outB m ρ c r (rot r (3 * (k + 1)) c) u = extV (VV m ρ k r (rot r (3 * (k + 1)) c) u) := by
  have hne : rot r (3 * (k + 1)) c ≠ rot r 1 c := by
    intro h
    have := congrArg Fin.val h
    unfold rot at this; dsimp only at this
    split at this <;> omega
  unfold outB; rw [if_neg hne]
  match k, hk with
  | n + 3, _ => rfl

end Cert.KernelIdeal.Moe

end
-- ==== Proof.Memory.lean ====
/- Loads and stores of the body, each by what its buffer holds. -/
module

public import proofs.«01_k».proof.Proof.Contents

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The inputs -/

def xPts (c : Dev nD) : sProp 𝕄 := ((c : Thread nD τ).loc cc0_stg0_0) ↦{fullShare} Xc m ρ c
def iPts (c : Dev nD) : sProp 𝕄 := ((c : Thread nD τ).loc cc0_stg1_0) ↦{fullShare} Ic m ρ c
def wPts (c : Dev nD) : sProp 𝕄 := ((c : Thread nD τ).loc cc0_stg2_0) ↦{fullShare} Wc m ρ c

section Steps

theorem ld_x {α : Type} {Q : α → sProp 𝕄} (c : Dev nD) (r : Fin 2) (q : Fin 4) {off : Fin 2 → ℕ} {h : ∀ a, off a + S256x512.size a ≤ S2048x512.size a}
    (hoff : off = ![1024 * r.val + 256 * q.val, 0]) {hl : (xM : Memref sig .tc .vmem S2048x512 .bf16).view.LoadsAt (Rect.unit (s := S2048x512) off S256x512.size h).toLoadRect}
    {k : Vec F S256x512 .bf16 → Prog (TpuEff nD τ sig (Elt F) Λ₀ .tc) α} :
    xPts m ρ c ⊢ iprop((xPts m ρ c -∗ WP c (k (xV m ρ c r q)) Q)
      -∗ WP c (.op (.load xM (Rect.unit (s := S2048x512) off S256x512.size h).toLoadRect hl) k) Q) := by
  subst hoff
  exact wp_load 𝒱₀ (c : Thread nD τ) none Set.univ (m := xM) (Finset.subset_univ _)

theorem ld_i {α : Type} {Q : α → sProp 𝕄} (c : Dev nD) (r : Fin 2) (q : Fin 4) {off : Fin 2 → ℕ} {h : ∀ a, off a + S256x1.size a ≤ S2048x1.size a}
    (hoff : off = ![1024 * r.val + 256 * q.val, 0]) {hl : (iM : Memref sig .tc .vmem S2048x1 .i32).view.LoadsAt (Rect.unit (s := S2048x1) off S256x1.size h).toLoadRect}
    {k : Vec F S256x1 .i32 → Prog (TpuEff nD τ sig (Elt F) Λ₀ .tc) α} :
    iPts m ρ c ⊢ iprop((iPts m ρ c -∗ WP c (k (iV m ρ c r q)) Q)
      -∗ WP c (.op (.load iM (Rect.unit (s := S2048x1) off S256x1.size h).toLoadRect hl) k) Q) := by
  subst hoff
  exact wp_load 𝒱₀ (c : Thread nD τ) none Set.univ (m := iM) (Finset.subset_univ _)

theorem ld_w {α : Type} {Q : α → sProp 𝕄} (c : Dev nD) (j : Fin 4) {off : Fin 3 → ℕ} {h : ∀ a, off a + S1x512x1024.size a ≤ S4x512x1024.size a}
    (hoff : off = ![j.val, 0, 0]) {hl : (wM : Memref sig .tc .vmem S4x512x1024 .bf16).view.LoadsAt (Rect.unit (s := S4x512x1024) off S1x512x1024.size h).toLoadRect}
    {k : Vec F S1x512x1024 .bf16 → Prog (TpuEff nD τ sig (Elt F) Λ₀ .tc) α} :
    wPts m ρ c ⊢ iprop((wPts m ρ c -∗ WP c (k (wV m ρ c j)) Q)
      -∗ WP c (.op (.load wM (Rect.unit (s := S4x512x1024) off S1x512x1024.size h).toLoadRect hl) k) Q) := by
  subst hoff
  exact wp_load 𝒱₀ (c : Thread nD τ) none Set.univ (m := wM) (Finset.subset_univ _)

/-! ## The copy of the matrices -/

/-- The device's own copy, the first `n` matrices stored. -/
def wbAt (c : Dev nD) (n : ℕ) : sProp 𝕄 :=
  iprop(∃ f : (cc0_scratch0 : Ref sig .tc).ty.Contents (Elt F), ⌜∀ x, (x 0).val < n → f x = wbF m ρ c x⌝ ∗ (((c : Thread nD τ).loc cc0_scratch0) ↦{fullShare} f))

theorem ld_b_any {α : Type} {Q : α → sProp 𝕄} (c : Dev nD) (n : ℕ) {R : LoadRect S4x512x1024} {hl : (bM : Memref sig .tc .vmem S4x512x1024 .bf16).view.LoadsAt R}
    {k : (R.shape.Idx → Elt F .bf16) → Prog (TpuEff nD τ sig (Elt F) Λ₀ .tc) α} :
    wbAt m ρ c n ⊢ iprop((∀ v, wbAt m ρ c n -∗ WP c (k v) Q) -∗ WP c (.op (.load bM R hl) k) Q) := by
  unfold wbAt
  iintro ⟨%f, %hf, H⟩ Hk
  iapply (wp_load 𝒱₀ (c : Thread nD τ) none Set.univ (m := bM) (Finset.subset_univ _)) $$ H
  iintro H
  iapply Hk
  iexists f
  isplitr; · ipureintro; exact hf
  iexact H

theorem ld_b {α : Type} {Q : α → sProp 𝕄} (c : Dev nD) (j : Fin 4) {off : Fin 3 → ℕ} {h : ∀ a, off a + S1x512x1024.size a ≤ S4x512x1024.size a}
    (hoff : off = ![j.val, 0, 0]) {hl : (bM : Memref sig .tc .vmem S4x512x1024 .bf16).view.LoadsAt (Rect.unit (s := S4x512x1024) off S1x512x1024.size h).toLoadRect}
    {k : Vec F S1x512x1024 .bf16 → Prog (TpuEff nD τ sig (Elt F) Λ₀ .tc) α} :
    wbAt m ρ c 4 ⊢ iprop((wbAt m ρ c 4 -∗ WP c (k (slab m ρ c j)) Q)
      -∗ WP c (.op (.load bM (Rect.unit (s := S4x512x1024) off S1x512x1024.size h).toLoadRect hl) k) Q) := by
  subst hoff
  unfold wbAt
  iintro ⟨%f, %hf, H⟩ Hk
  iapply (wp_load 𝒱₀ (c : Thread nD τ) none Set.univ (m := bM) (Finset.subset_univ _)) $$ H
  iintro H
  have he : (bM : Memref sig .tc .vmem S4x512x1024 .bf16).view.readAt (Elt F) (wR j).toLoadRect f = slab m ρ c j := by
    funext z
    show f ((wR j).emb z) = _
    rw [hf _ ((wR j).emb z 0).isLt, wbF_emb]
  rw [he]
  iapply Hk
  iexists f
  isplitr; · ipureintro; exact hf
  iexact H

theorem st_b {α : Type} {Q : α → sProp 𝕄} (c : Dev nD) (j : Fin 4) (n : ℕ) (hn : n = j.val) {off : Fin 3 → ℕ} {h : ∀ a, off a + S1x512x1024.size a ≤ S4x512x1024.size a}
    (hoff : off = ![j.val, 0, 0]) {v : Vec F S1x512x1024 .bf16} (hv : v = slab m ρ c j)
    {hx : ((bM : Memref sig .tc .vmem S4x512x1024 .bf16).access (Rect.unit (s := S4x512x1024) off S1x512x1024.size h) : View sig .tc _ _ _).Stores Finset.univ}
    {hm : (Finset.univ : Finset (Rect.unit (s := S4x512x1024) off S1x512x1024.size h).shape.Idx) = Finset.univ ∨ ∀ a, (Rect.unit (s := S4x512x1024) off S1x512x1024.size h).stride a = 1}
    {k : PUnit → Prog (TpuEff nD τ sig (Elt F) Λ₀ .tc) α} :
    wbAt m ρ c n ⊢ iprop((wbAt m ρ c (n + 1) -∗ WP c (k ⟨⟩) Q)
      -∗ WP c (.op (.store bM (Rect.unit (s := S4x512x1024) off S1x512x1024.size h) v Finset.univ hx hm) k) Q) := by
  subst hoff hv hn
  unfold wbAt
  iintro ⟨%f, %hf, H⟩ Hk
  iapply (wp_store 𝒱₀ (c : Thread nD τ) none Set.univ (m := bM) (r := wR j) (Mk := Finset.univ) (Finset.subset_univ _)) $$ H
  iintro H
  iapply Hk
  iexists _
  isplitr; rotate_left
  · iexact H
  ipureintro
  intro x hx'
  by_cases hmem : x ∈ ((bM : Memref sig .tc .vmem S4x512x1024 .bf16).access (wR j) : View sig .tc _ _ _).set
  · obtain ⟨z, -, rfl⟩ := Finset.mem_map.mp hmem
    rw [View.write_emb_of_mem _ _ (Finset.mem_univ z)]
    exact (wbF_emb m ρ c j z).symm
  · rw [View.write_of_not_mem _ _ _ hmem]
    refine hf x ?_
    by_contra hlt
    apply hmem
    rw [show ((bM : Memref sig .tc .vmem S4x512x1024 .bf16).access (wR j) : View sig .tc _ _ _).set = (wR j).set from View.set_slice_whole _ _, Rect.mem_set_unit]
    have h1 : (x 1).val < 512 := (x 1).isLt
    have h2 : (x 2).val < 1024 := (x 2).isLt
    intro a
    fin_cases a
    · show j.val ≤ (x 0).val ∧ (x 0).val < j.val + 1; omega
    · show 0 ≤ (x 1).val ∧ (x 1).val < 0 + 512; omega
    · show 0 ≤ (x 2).val ∧ (x 2).val < 0 + 1024; omega

/-! ## The result -/

def orank (j : J) : ℕ := 4 * j.2.1.val + 2 * j.2.2.val + j.1.val
theorem orank_inj : ∀ i j : J, orank i = orank j → i = j := by decide +kernel

/-- The block of the result stored at hop `2 + j.2.1`. -/
abbrev oQ (c : Dev nD) (j : J) : Fin 4 := rot j.1 (3 * (j.2.1.val + 3)) c

/-- The result buffer, its first `n` blocks stored. -/
def oAt (c : Dev nD) (n : ℕ) : sProp 𝕄 :=
  iprop(∃ f : (cc0_stg3_0 : Ref sig .tc).ty.Contents (Elt F), ⌜∀ j : J, orank j < n → ∀ z, f ((oR j.1 (oQ c j) j.2.2).emb z) = outF m ρ c ((oR j.1 (oQ c j) j.2.2).emb z)⌝
    ∗ (((c : Thread nD τ).loc cc0_stg3_0) ↦{fullShare} f))

theorem ld_o {α : Type} {Q : α → sProp 𝕄} (c : Dev nD) (n : ℕ) {R : LoadRect S2048x1024} {hl : (oM : Memref sig .tc .vmem S2048x1024 .f32).view.LoadsAt R}
    {k : (R.shape.Idx → Elt F .f32) → Prog (TpuEff nD τ sig (Elt F) Λ₀ .tc) α} :
    oAt m ρ c n ⊢ iprop((∀ v, oAt m ρ c n -∗ WP c (k v) Q) -∗ WP c (.op (.load oM R hl) k) Q) := by
  unfold oAt
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H

theorem st_o {α : Type} {Q : α → sProp 𝕄} (c : Dev nD) (j : J) (n : ℕ) (hn : orank j = n) {off : Fin 2 → ℕ} {h : ∀ a, off a + S128x1024.size a ≤ S2048x1024.size a}
    (hoff : off = ![1024 * j.1.val + 256 * (oQ c j).val + 128 * j.2.2.val, 0]) {v : Vec F S128x1024 .f32} (hv : v = outB m ρ c j.1 (oQ c j) j.2.2)
    {hx : ((oM : Memref sig .tc .vmem S2048x1024 .f32).access (Rect.unit (s := S2048x1024) off S128x1024.size h) : View sig .tc _ _ _).Stores Finset.univ}
    {hm : (Finset.univ : Finset (Rect.unit (s := S2048x1024) off S128x1024.size h).shape.Idx) = Finset.univ ∨ ∀ a, (Rect.unit (s := S2048x1024) off S128x1024.size h).stride a = 1}
    {k : PUnit → Prog (TpuEff nD τ sig (Elt F) Λ₀ .tc) α} :
    oAt m ρ c n ⊢ iprop((oAt m ρ c (n + 1) -∗ WP c (k ⟨⟩) Q)
      -∗ WP c (.op (.store oM (Rect.unit (s := S2048x1024) off S128x1024.size h) v Finset.univ hx hm) k) Q) := by
  subst hoff hv hn
  unfold oAt
  iintro ⟨%f, %hf, H⟩ Hk
  iapply (wp_store 𝒱₀ (c : Thread nD τ) none Set.univ (m := oM) (r := oR j.1 (oQ c j) j.2.2) (Mk := Finset.univ) (Finset.subset_univ _)) $$ H
  iintro H
  iapply Hk
  iexists _
  isplitr; rotate_left
  · iexact H
  ipureintro
  have hall : ∀ x, (x ∈ ((oM : Memref sig .tc .vmem S2048x1024 .f32).access (oR j.1 (oQ c j) j.2.2) : View sig .tc _ _ _).set ∨ f x = outF m ρ c x)
      → ((oM : Memref sig .tc .vmem S2048x1024 .f32).access (oR j.1 (oQ c j) j.2.2) : View sig .tc _ _ _).write (Elt F) f (outB m ρ c j.1 (oQ c j) j.2.2) Finset.univ x = outF m ρ c x := by
    intro x hx'
    by_cases hmem : x ∈ ((oM : Memref sig .tc .vmem S2048x1024 .f32).access (oR j.1 (oQ c j) j.2.2) : View sig .tc _ _ _).set
    · obtain ⟨z, -, rfl⟩ := Finset.mem_map.mp hmem
      rw [View.write_emb_of_mem _ _ (Finset.mem_univ z)]
      exact (outF_emb m ρ c _ _ _ z).symm
    · rw [View.write_of_not_mem _ _ _ hmem]
      exact hx'.resolve_left hmem
  intro j' hj' z
  apply hall
  rcases Nat.lt_or_ge (orank j') (orank j) with hlt | hge
  · exact Or.inr (hf j' hlt z)
  · have : j' = j := orank_inj _ _ (by omega)
    subst this
    exact Or.inl (View.emb_mem_set _ z)

end Steps

end Cert.KernelIdeal.Moe

end
-- ==== Proof.Local.lean ====
/- The buffer of the device's own partial products: chunks computed, halves summed into. -/
module

public import proofs.«01_k».proof.Proof.Memory

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem sep_insert {α : Type} [DecidableEq α] {a : α} {s : Finset α} (h : a ∉ s) {Φ : α → sProp 𝕄} :
    bigSep (insert a s) Φ = iprop(Φ a ∗ bigSep s Φ) := bigSep_insert h

/-! ## Windows of the buffer -/

omit [FloatOps F] in
theorem lPts_rect (c : Dev nD) (j : J) (f : (cc0_scratch1 : Ref sig .tc).ty.Contents (Elt F)) :
    lPts c j f = (((c : Thread nD τ).loc cc0_scratch1) ↦[(lR j).set]{fullShare} f : sProp 𝕄) := by
  unfold lPts
  rw [show (lW j).view.set = (lR j).set from (View.set_reshape _ _).trans (View.set_slice_whole _ _)]
omit [FloatOps F] in
theorem lW_set (j : J) : (lW j).view.set = (lR j).set := (View.set_reshape _ _).trans (View.set_slice_whole _ _)

/-- A whole chunk's window. -/
def cPts (c : Dev nD) (rp : Fin 2 × Fin 4) (f : (cc0_scratch1 : Ref sig .tc).ty.Contents (Elt F)) : sProp 𝕄 :=
  ((c : Thread nD τ).loc cc0_scratch1) ↦[(cR rp.1 rp.2).set]{fullShare} f

theorem mem_lR {j : J} {x : S2x4x256x1024.Idx} :
    x ∈ (lR j).set ↔ (x 0).val = j.1.val ∧ (x 1).val = j.2.1.val ∧ 128 * j.2.2.val ≤ (x 2).val ∧ (x 2).val < 128 * j.2.2.val + 128 := by
  rw [Rect.mem_set_unit]
  have h3 : (x 3).val < 1024 := (x 3).isLt
  constructor
  · intro h
    have h0 : j.1.val ≤ (x 0).val ∧ (x 0).val < j.1.val + 1 := h 0
    have h1 : j.2.1.val ≤ (x 1).val ∧ (x 1).val < j.2.1.val + 1 := h 1
    have h2 : 128 * j.2.2.val ≤ (x 2).val ∧ (x 2).val < 128 * j.2.2.val + 128 := h 2
    omega
  · intro h a
    fin_cases a
    · show j.1.val ≤ (x 0).val ∧ (x 0).val < j.1.val + 1; omega
    · show j.2.1.val ≤ (x 1).val ∧ (x 1).val < j.2.1.val + 1; omega
    · show 128 * j.2.2.val ≤ (x 2).val ∧ (x 2).val < 128 * j.2.2.val + 128; omega
    · show 0 ≤ (x 3).val ∧ (x 3).val < 0 + 1024; omega

theorem mem_cR {r : Fin 2} {p : Fin 4} {x : S2x4x256x1024.Idx} : x ∈ (cR r p).set ↔ (x 0).val = r.val ∧ (x 1).val = p.val := by
  rw [Rect.mem_set_unit]
  have h2 : (x 2).val < 256 := (x 2).isLt
  have h3 : (x 3).val < 1024 := (x 3).isLt
  constructor
  · intro h
    have h0 : r.val ≤ (x 0).val ∧ (x 0).val < r.val + 1 := h 0
    have h1 : p.val ≤ (x 1).val ∧ (x 1).val < p.val + 1 := h 1
    omega
  · intro h a
    fin_cases a
    · show r.val ≤ (x 0).val ∧ (x 0).val < r.val + 1; omega
    · show p.val ≤ (x 1).val ∧ (x 1).val < p.val + 1; omega
    · show 0 ≤ (x 2).val ∧ (x 2).val < 0 + 256; omega
    · show 0 ≤ (x 3).val ∧ (x 3).val < 0 + 1024; omega

theorem cR_split (r : Fin 2) (p : Fin 4) : (cR r p).set = (lR (r, p, 0)).set ∪ (lR (r, p, 1)).set := by
  ext x
  rw [Finset.mem_union, mem_cR, mem_lR, mem_lR]
  have h2 : (x 2).val < 256 := (x 2).isLt
  show _ ↔ ((x 0).val = r.val ∧ (x 1).val = p.val ∧ 128 * 0 ≤ (x 2).val ∧ (x 2).val < 128 * 0 + 128)
    ∨ ((x 0).val = r.val ∧ (x 1).val = p.val ∧ 128 * 1 ≤ (x 2).val ∧ (x 2).val < 128 * 1 + 128)
  omega
theorem lR_disjoint {j j' : J} (h : j ≠ j') : Disjoint (lR j).set (lR j').set := by
  rw [Finset.disjoint_left]
  intro x hx hx'
  rw [mem_lR] at hx hx'
  exact h (Prod.ext (Fin.ext (by omega)) (Prod.ext (Fin.ext (by omega)) (Fin.ext (by omega))))

theorem cPts_split (c : Dev nD) (r : Fin 2) (p : Fin 4) (f : (cc0_scratch1 : Ref sig .tc).ty.Contents (Elt F)) :
    cPts c (r, p) f ⊢ iprop(lPts c (r, p, 0) f ∗ lPts c (r, p, 1) f) := by
  unfold cPts
  rw [lPts_rect, lPts_rect, cR_split]
  exact (pointsTo_union (lR_disjoint (fun h => by cases h))).1

def crank (rp : Fin 2 × Fin 4) : ℕ := 2 * rp.2.val + rp.1.val
theorem crank_inj : ∀ i j : Fin 2 × Fin 4, crank i = crank j → i = j := by decide +kernel

/-- The halves computed by the first `a` chunks and not yet summed into by the stores numbered below `b`. -/
def halves (a b : ℕ) : Finset J := Finset.univ.filter fun j => crank (j.1, j.2.1) < a ∧ b ≤ orank j

theorem halves_first {r : Fin 2} {a b : ℕ} (ha : crank (r, 0) = a) (hb : 4 ≤ b) : halves (a + 1) b = halves a b := by
  ext j
  simp only [halves, Finset.mem_filter, Finset.mem_univ, _root_.true_and]
  unfold crank orank at *
  dsimp only at *
  have : (0 : Fin 4).val = 0 := rfl
  omega
theorem halves_chunk {r : Fin 2} {p : Fin 4} {a b : ℕ} (ha : crank (r, p) = a) (hb : b ≤ 4 * p.val) :
    halves (a + 1) b = insert (r, p, 0) (insert (r, p, 1) (halves a b)) := by
  ext j
  simp only [halves, Finset.mem_filter, Finset.mem_univ, _root_.true_and, Finset.mem_insert]
  constructor
  · rintro ⟨h1, h2⟩
    rcases Nat.lt_or_ge (crank (j.1, j.2.1)) a with h | h
    · exact Or.inr (Or.inr ⟨h, h2⟩)
    · have he := crank_inj (j.1, j.2.1) (r, p) (by omega)
      have e1 : j.1 = r := congrArg Prod.fst he
      have e2 : j.2.1 = p := congrArg Prod.snd he
      obtain ⟨j1, j2, j3⟩ := j
      dsimp only at e1 e2
      subst e1 e2
      fin_cases j3
      · exact Or.inl rfl
      · exact Or.inr (Or.inl rfl)
  · unfold crank orank at *
    rintro (rfl | rfl | h)
    · dsimp only at *; omega
    · dsimp only at *; omega
    · omega
theorem not_mem_halves0 {r : Fin 2} {p : Fin 4} {a b : ℕ} (ha : crank (r, p) = a) : (r, p, (0 : Fin 2)) ∉ insert (r, p, 1) (halves a b) := by
  simp only [halves, Finset.mem_filter, Finset.mem_univ, _root_.true_and, Finset.mem_insert, not_or]
  exact ⟨fun h => absurd (congrArg (fun j : J => j.2.2) h) (by decide : (0 : Fin 2) ≠ 1), fun h => by omega⟩
theorem not_mem_halves1 {r : Fin 2} {p : Fin 4} {a b : ℕ} (ha : crank (r, p) = a) : (r, p, (1 : Fin 2)) ∉ halves a b := by
  simp only [halves, Finset.mem_filter, Finset.mem_univ, _root_.true_and]
  intro h
  omega
theorem halves_store {j : J} {a b : ℕ} (hb : orank j = b) (ha : crank (j.1, j.2.1) < a) : halves a b = insert j (halves a (b + 1)) := by
  ext i
  simp only [halves, Finset.mem_insert, Finset.mem_filter, Finset.mem_univ, _root_.true_and]
  constructor
  · intro h
    rcases Nat.lt_or_ge b (orank i) with h' | h'
    · exact Or.inr ⟨h.1, h'⟩
    · exact Or.inl (orank_inj i j (by omega))
  · rintro (rfl | h)
    · exact ⟨ha, by omega⟩
    · exact ⟨h.1, by omega⟩
theorem not_mem_halves {j : J} {a b : ℕ} (hb : orank j = b) : j ∉ halves a (b + 1) := by
  simp only [halves, Finset.mem_filter, Finset.mem_univ, _root_.true_and]; omega

/-- The buffer: the chunks from `a` on not computed, of those computed the halves not yet summed into. -/
def Parts (c : Dev nD) (a b : ℕ) : sProp 𝕄 :=
  iprop((bigSep (from_ crank a) fun rp => iprop(∃ f, cPts c rp f)) ∗ bigSep (halves a b) fun j => lPts c j (locF0 m ρ c))

theorem ld_chunk {α : Type} {Q : α → sProp 𝕄} (c : Dev nD) (r : Fin 2) (p : Fin 4) {a b : ℕ} (ha : crank (r, p) = a)
    {off : Fin 4 → ℕ} {h : ∀ a, off a + S1x1x256x1024.size a ≤ S2x4x256x1024.size a} (hoff : off = ![r.val, p.val, 0, 0])
    {hl : (lM : Memref sig .tc .vmem S2x4x256x1024 .bf16).view.LoadsAt (Rect.unit (s := S2x4x256x1024) off S1x1x256x1024.size h).toLoadRect}
    {k : Vec F S1x1x256x1024 .bf16 → Prog (TpuEff nD τ sig (Elt F) Λ₀ .tc) α} :
    Parts m ρ c a b ⊢ iprop((∀ v, Parts m ρ c a b -∗ WP c (k v) Q)
      -∗ WP c (.op (.load lM (Rect.unit (s := S2x4x256x1024) off S1x1x256x1024.size h).toLoadRect hl) k) Q) := by
  subst hoff
  unfold Parts
  rw [from_succ crank_inj ha, sep_insert (not_mem_from ha)]
  unfold cPts
  iintro ⟨⟨⟨%f, H⟩, HA⟩, HB⟩ Hk
  iapply (wp_load_rect 𝒱₀ (c : Thread nD τ) none Set.univ (m := lM) (r := cR r p)
    (S := (cR r p).set) (q := fullShare) (f := f) (subset_of_eq (View.set_slice_whole _ _))) $$ H
  iintro H
  iapply Hk
  isplitr [HB]
  · isplitl [H]
    · iexists f; iexact H
    iexact HA
  iexact HB

theorem write_chunk (c : Dev nD) (r : Fin 2) (p : Fin 4) (f : (cc0_scratch1 : Ref sig .tc).ty.Contents (Elt F)) {v : Vec F S1x1x256x1024 .bf16}
    (hv : v = chunkAt m ρ c r (rot r (3 * p.val) c)) :
    (((c : Thread nD τ).loc cc0_scratch1) ↦[(cR r p).set]{fullShare}
        (((lM : Memref sig .tc .vmem S2x4x256x1024 .bf16).access (cR r p) : View sig .tc _ _ _).write (Elt F) f v Finset.univ) : sProp 𝕄)
      = cPts c (r, p) (locF0 m ρ c) := by
  subst hv
  unfold cPts
  refine pointsTo_congr fun x hx => ?_
  rw [← show ((lM : Memref sig .tc .vmem S2x4x256x1024 .bf16).access (cR r p) : View sig .tc _ _ _).set = (cR r p).set from View.set_slice_whole _ _] at hx
  obtain ⟨z, -, rfl⟩ := Finset.mem_map.mp hx
  rw [View.write_emb_of_mem _ _ (Finset.mem_univ z)]
  exact (locF0_emb_chunk m ρ c r p z).symm

theorem st_chunk {α : Type} {Q : α → sProp 𝕄} (c : Dev nD) (r : Fin 2) (p : Fin 4) {a b : ℕ} (ha : crank (r, p) = a) (hb : b ≤ 4 * p.val)
    {off : Fin 4 → ℕ} {h : ∀ a, off a + S1x1x256x1024.size a ≤ S2x4x256x1024.size a} (hoff : off = ![r.val, p.val, 0, 0])
    {v : Vec F S1x1x256x1024 .bf16} (hv : v = chunkAt m ρ c r (rot r (3 * p.val) c))
    {hx : ((lM : Memref sig .tc .vmem S2x4x256x1024 .bf16).access (Rect.unit (s := S2x4x256x1024) off S1x1x256x1024.size h) : View sig .tc _ _ _).Stores Finset.univ}
    {hm : (Finset.univ : Finset (Rect.unit (s := S2x4x256x1024) off S1x1x256x1024.size h).shape.Idx) = Finset.univ ∨ ∀ a, (Rect.unit (s := S2x4x256x1024) off S1x1x256x1024.size h).stride a = 1}
    {k : PUnit → Prog (TpuEff nD τ sig (Elt F) Λ₀ .tc) α} :
    Parts m ρ c a b ⊢ iprop((Parts m ρ c (a + 1) b -∗ WP c (k ⟨⟩) Q)
      -∗ WP c (.op (.store lM (Rect.unit (s := S2x4x256x1024) off S1x1x256x1024.size h) v Finset.univ hx hm) k) Q) := by
  subst hoff
  unfold Parts
  rw [from_succ crank_inj ha, sep_insert (not_mem_from ha), halves_chunk ha hb, sep_insert (not_mem_halves0 ha), sep_insert (not_mem_halves1 ha)]
  iintro ⟨⟨⟨%f, H⟩, HA⟩, HB⟩ Hk
  ihave H' := (show cPts c (r, p) f ⊢ (((c : Thread nD τ).loc cc0_scratch1) ↦[(cR r p).set]{fullShare} f : sProp 𝕄) from Entails.of_eq rfl) $$ H
  iapply (wp_store 𝒱₀ (c : Thread nD τ) none Set.univ (m := lM) (r := cR r p) (Mk := Finset.univ)
    (S := (cR r p).set) (f := f) (subset_of_eq (View.set_slice_whole _ _))) $$ H'
  iintro H
  ihave H' := (Entails.of_eq (write_chunk m ρ c r p f hv)) $$ H
  ihave H'' := (cPts_split c r p _) $$ H'
  icases H'' with ⟨H0, H1⟩
  iapply Hk
  isplitl [HA]; · iexact HA
  isplitl [H0]; · iexact H0
  isplitl [H1]; · iexact H1
  iexact HB

/-- Position 0's half, ready to be sent. -/
theorem lPts_first (c : Dev nD) (r u : Fin 2) : lPts c (r, 0, u) (locF0 m ρ c) = lPts c (r, 0, u) (locF1 m ρ c) := by
  rw [lPts_rect, lPts_rect]
  refine pointsTo_congr fun x hx => ?_
  rw [← show ((lM : Memref sig .tc .vmem S2x4x256x1024 .bf16).access (lR (r, 0, u)) : View sig .tc _ _ _).set = (lR (r, 0, u)).set from View.set_slice_whole _ _] at hx
  obtain ⟨z, -, rfl⟩ := Finset.mem_map.mp hx
  exact (locF1_first m ρ c r u z).symm

theorem st_chunk0 {α : Type} {Q : α → sProp 𝕄} (c : Dev nD) (r : Fin 2) {a b : ℕ} (ha : crank (r, 0) = a) (hb : 4 ≤ b)
    {off : Fin 4 → ℕ} {h : ∀ a, off a + S1x1x256x1024.size a ≤ S2x4x256x1024.size a} (hoff : off = ![r.val, 0, 0, 0])
    {v : Vec F S1x1x256x1024 .bf16} (hv : v = chunkAt m ρ c r (rot r 0 c))
    {hx : ((lM : Memref sig .tc .vmem S2x4x256x1024 .bf16).access (Rect.unit (s := S2x4x256x1024) off S1x1x256x1024.size h) : View sig .tc _ _ _).Stores Finset.univ}
    {hm : (Finset.univ : Finset (Rect.unit (s := S2x4x256x1024) off S1x1x256x1024.size h).shape.Idx) = Finset.univ ∨ ∀ a, (Rect.unit (s := S2x4x256x1024) off S1x1x256x1024.size h).stride a = 1}
    {k : PUnit → Prog (TpuEff nD τ sig (Elt F) Λ₀ .tc) α} :
    Parts m ρ c a b ⊢ iprop(((Parts m ρ c (a + 1) b ∗ lPts c (r, 0, 0) (locF1 m ρ c) ∗ lPts c (r, 0, 1) (locF1 m ρ c)) -∗ WP c (k ⟨⟩) Q)
      -∗ WP c (.op (.store lM (Rect.unit (s := S2x4x256x1024) off S1x1x256x1024.size h) v Finset.univ hx hm) k) Q) := by
  subst hoff
  unfold Parts
  rw [from_succ crank_inj ha, sep_insert (not_mem_from ha), halves_first ha hb]
  iintro ⟨⟨⟨%f, H⟩, HA⟩, HB⟩ Hk
  ihave H' := (show cPts c (r, 0) f ⊢ (((c : Thread nD τ).loc cc0_scratch1) ↦[(cR r 0).set]{fullShare} f : sProp 𝕄) from Entails.of_eq rfl) $$ H
  iapply (wp_store 𝒱₀ (c : Thread nD τ) none Set.univ (m := lM) (r := cR r 0) (Mk := Finset.univ)
    (S := (cR r 0).set) (f := f) (subset_of_eq (View.set_slice_whole _ _))) $$ H'
  iintro H
  ihave H' := (Entails.of_eq (write_chunk m ρ c r 0 f hv)) $$ H
  ihave H'' := (cPts_split c r 0 _) $$ H'
  rw [lPts_first, lPts_first]
  icases H'' with ⟨H0, H1⟩
  iapply Hk
  isplitl [HA HB]
  · isplitl [HA]; · iexact HA
    iexact HB
  isplitl [H0]; · iexact H0
  iexact H1

theorem ld_half {α : Type} {Q : α → sProp 𝕄} (c : Dev nD) (j : J) {a b : ℕ} (hb : orank j = b) (ha : crank (j.1, j.2.1) < a)
    {off : Fin 4 → ℕ} {h : ∀ a, off a + S1x1x128x1024.size a ≤ S2x4x256x1024.size a} (hoff : off = ![j.1.val, j.2.1.val, 128 * j.2.2.val, 0])
    {hl : (lM : Memref sig .tc .vmem S2x4x256x1024 .bf16).view.LoadsAt (Rect.unit (s := S2x4x256x1024) off S1x1x128x1024.size h).toLoadRect}
    {k : Vec F S1x1x128x1024 .bf16 → Prog (TpuEff nD τ sig (Elt F) Λ₀ .tc) α} :
    Parts m ρ c a b ⊢ iprop((Parts m ρ c a b -∗ WP c (k (half m ρ c j.1 (rot j.1 (3 * j.2.1.val) c) j.2.2)) Q)
      -∗ WP c (.op (.load lM (Rect.unit (s := S2x4x256x1024) off S1x1x128x1024.size h).toLoadRect hl) k) Q) := by
  subst hoff
  unfold Parts
  rw [halves_store hb ha, sep_insert (not_mem_halves hb), lPts_rect]
  iintro ⟨HA, H, HB⟩ Hk
  iapply (wp_load_rect 𝒱₀ (c : Thread nD τ) none Set.univ (m := lM) (r := lR j)
    (S := (lR j).set) (q := fullShare) (f := locF0 m ρ c) (subset_of_eq (View.set_slice_whole _ _))) $$ H
  iintro H
  rw [show ((lM : Memref sig .tc .vmem S2x4x256x1024 .bf16).access (lR j) : View sig .tc _ _ _).read (Elt F) (locF0 m ρ c)
    = half m ρ c j.1 (rot j.1 (3 * j.2.1.val) c) j.2.2 from funext fun z => locF0_emb m ρ c j z]
  iapply Hk
  isplitl [HA]; · iexact HA
  isplitl [H]; · iexact H
  iexact HB

theorem st_half {α : Type} {Q : α → sProp 𝕄} (c : Dev nD) (j : J) {a b : ℕ} (hb : orank j = b) (ha : crank (j.1, j.2.1) < a)
    {off : Fin 4 → ℕ} {h : ∀ a, off a + S1x1x128x1024.size a ≤ S2x4x256x1024.size a} (hoff : off = ![j.1.val, j.2.1.val, 128 * j.2.2.val, 0])
    {v : Vec F S1x1x128x1024 .bf16} (hv : v = VV m ρ j.2.1.val j.1 (rot j.1 (3 * j.2.1.val) c) j.2.2)
    {hx : ((lM : Memref sig .tc .vmem S2x4x256x1024 .bf16).access (Rect.unit (s := S2x4x256x1024) off S1x1x128x1024.size h) : View sig .tc _ _ _).Stores Finset.univ}
    {hm : (Finset.univ : Finset (Rect.unit (s := S2x4x256x1024) off S1x1x128x1024.size h).shape.Idx) = Finset.univ ∨ ∀ a, (Rect.unit (s := S2x4x256x1024) off S1x1x128x1024.size h).stride a = 1}
    {k : PUnit → Prog (TpuEff nD τ sig (Elt F) Λ₀ .tc) α} :
    Parts m ρ c a b ⊢ iprop(((Parts m ρ c a (b + 1) ∗ lPts c j (locF1 m ρ c)) -∗ WP c (k ⟨⟩) Q)
      -∗ WP c (.op (.store lM (Rect.unit (s := S2x4x256x1024) off S1x1x128x1024.size h) v Finset.univ hx hm) k) Q) := by
  subst hoff
  have hw : (((c : Thread nD τ).loc cc0_scratch1) ↦[(lR j).set]{fullShare}
        (((lM : Memref sig .tc .vmem S2x4x256x1024 .bf16).access (lR j) : View sig .tc _ _ _).write (Elt F) (locF0 m ρ c) v Finset.univ) : sProp 𝕄)
      = (((c : Thread nD τ).loc cc0_scratch1) ↦[(lR j).set]{fullShare} locF1 m ρ c) := by
    subst hv
    refine pointsTo_congr fun x hx => ?_
    rw [← show ((lM : Memref sig .tc .vmem S2x4x256x1024 .bf16).access (lR j) : View sig .tc _ _ _).set = (lR j).set from View.set_slice_whole _ _] at hx
    obtain ⟨z, -, rfl⟩ := Finset.mem_map.mp hx
    rw [View.write_emb_of_mem _ _ (Finset.mem_univ z)]
    exact (locF1_emb m ρ c j z).symm
  unfold Parts
  rw [halves_store hb ha, sep_insert (not_mem_halves hb), lPts_rect, lPts_rect]
  iintro ⟨HA, H, HB⟩ Hk
  iapply (wp_store 𝒱₀ (c : Thread nD τ) none Set.univ (m := lM) (r := lR j) (Mk := Finset.univ)
    (S := (lR j).set) (f := locF0 m ρ c) (subset_of_eq (View.set_slice_whole _ _))) $$ H
  iintro H
  ihave H' := (Entails.of_eq hw) $$ H
  iapply Hk
  isplitr [H']
  · isplitl [HA]; · iexact HA
    iexact HB
  iexact H'

end Cert.KernelIdeal.Moe

end
-- ==== Proof.Wire.lean ====
/- The transfers of the body: the barrier, the sends, the waits and the reads of what has landed. -/
module

public import proofs.«01_k».proof.Proof.Local

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

/-- A device's cells: its barrier's, and by transfer its sends' and its landings'. -/
abbrev Cells := Option (Bool × I)
abbrev csem (k : Cells) : SemLoc sig := match k with
  | none => .reg barS
  | some (false, i) => .dma (sS i)
  | some (true, i) => .dma (rS i)
abbrev kcell (ck : Dev nD × Cells) : GSem nD τ sig := ((ck.1 : Thread nD τ), csem ck.2)

/-- Every cell's invariant, and that each has reached its round. -/
def records (K : Dev nD × Cells → ℕ) : sProp 𝕄 :=
  iprop((bigSep Finset.univ fun ck : Dev nD × Cells => cellInv ER (Rd m ρ) (K ck) (kcell ck))
    ∗ bigSep Finset.univ fun ck : Dev nD × Cells => reached ER (kcell ck) 0)
instance records_persistent (K : Dev nD × Cells → ℕ) : BI.Persistent (records m ρ K) := by unfold records; infer_instance

theorem inv_at (K : Dev nD × Cells → ℕ) (ck : Dev nD × Cells) : records m ρ K ⊢ cellInv ER (Rd m ρ) (K ck) (kcell ck) := by
  unfold records
  iintro ⟨H, -⟩
  have h : (bigSep Finset.univ fun ck : Dev nD × Cells => (cellInv ER (Rd m ρ) (K ck) (kcell ck) : sProp 𝕄)) ⊢ cellInv ER (Rd m ρ) (K ck) (kcell ck) := bigSep_elim (Finset.mem_univ ck)
  iapply h; iexact H
theorem reached_at (K : Dev nD × Cells → ℕ) (ck : Dev nD × Cells) : records m ρ K ⊢ reached ER (kcell ck) 0 := by
  unfold records
  iintro ⟨-, H⟩
  have h : (bigSep Finset.univ fun ck : Dev nD × Cells => (reached ER (kcell ck) 0 : sProp 𝕄)) ⊢ reached ER (kcell ck) 0 := bigSep_elim (Finset.mem_univ ck)
  iapply h; iexact H

/-! ## What a device holds of its transfers -/

def SendTok (c : Dev nD) (i : I) : sProp 𝕄 :=
  iprop(dutyTok ER (sCell c i) 0 0 ∗ dutyTok ER (rCell (fwd i.1 c) i) 0 0 ∗ atPos ER (sCell c i) 0 ∅ 0)
/-- Before its send: the tokens and the window to write. -/
def SendReady (c : Dev nD) (i : I) : sProp 𝕄 := iprop(SendTok c i ∗ ∃ f, rPts (fwd i.1 c) i fullShare f)
/-- Sent and not waited for. -/
def Sent (c : Dev nD) (i : I) : sProp 𝕄 := iprop(cred (tallyAt (sCell c i) () N) ∗ atPos ER (sCell c i) 0 ∅ 0)
/-- Waited for: the source back. -/
def Retired (c : Dev nD) (i : I) : sProp 𝕄 := iprop(semVal (sCell c i) 0 ∗ sendPay m ρ c i)
/-- Before the wait for its landing. -/
def RecvReady (c : Dev nD) (i : I) : sProp 𝕄 := iprop(cred (tallyAt (rCell c i) () N) ∗ atPos ER (rCell c i) 0 ∅ 0)
/-- The share of a landing window kept for reading: half of it when the window is sent on. -/
def keepQ (i : I) : PosShare TreeShare := if i.2.1 = 3 ∨ i.2.1 = 4 then fullShare.right else fullShare
/-- Landed. -/
def Done (c : Dev nD) (i : I) : sProp 𝕄 := iprop(semVal (rCell c i) 0 ∗ rPts c i (keepQ i) (recvF m ρ c))

/-- After `s` sends, `f` waits for sends and `w` waits for landings. -/
def Comm (c : Dev nD) (s f w : ℕ) : sProp 𝕄 :=
  iprop(∃ K, records m ρ K ∗ levAts L lv ∗ (∃ W, owes (c : Thread nD τ) (owed c s) W) ∗ bigSep (from_ srank s) (SendReady c)
    ∗ bigSep (flight s f) (Sent c) ∗ bigSep (upto no f) (Retired m ρ c) ∗ bigSep (from_ rrank w) (RecvReady c) ∗ bigSep (upto rrank w) (Done m ρ c))

/-! ## The barrier -/

def Held (c : Dev nD) : sProp 𝕄 :=
  iprop(cred (tallyAt (barCell c) () 2) ∗ atPos ER (barCell c) 0 ∅ 0 ∗ bigSep Finset.univ (SendTok c) ∗ bigSep Finset.univ (RecvReady c))
def Bar0 (c : Dev nD) : sProp 𝕄 :=
  iprop(∃ K, records m ρ K ∗ levAts L lv ∗ (∃ W, owes (c : Thread nD τ) (O₀ c) W) ∗ dutyTok ER (barCell (bwd 0 c)) 0 0 ∗ dutyTok ER (barCell (bwd 1 c)) 0 1
    ∗ barPay (bwd 0 c) 0 ∗ barPay (bwd 1 c) 1 ∗ Held c)
def Bar1 (c : Dev nD) : sProp 𝕄 :=
  iprop(∃ K, records m ρ K ∗ levAts L lv ∗ (∃ W, owes (c : Thread nD τ) (O₁ c) W) ∗ dutyTok ER (barCell (bwd 1 c)) 0 1 ∗ barPay (bwd 1 c) 1 ∗ Held c)
def Bar2 (c : Dev nD) : sProp 𝕄 :=
  iprop(∃ K, records m ρ K ∗ levAts L lv ∗ (∃ W, owes (c : Thread nD τ) (owed c 0) W) ∗ Held c)

theorem sig0 {α : Type} {Q : α → sProp 𝕄} (c : Dev nD) {n : Dev nD} (hn : n = bwd 0 c) {sm : Sem sig} (hsm : sm = barS) {a : ℕ} (ha : a = 1)
    {k : PUnit → Prog (TpuEff nD τ sig (Elt F) Λ₀ .tc) α} :
    Bar0 m ρ c ⊢ iprop((Bar1 m ρ c -∗ WP c (k ⟨⟩) Q) -∗ WP c (.op (.semSignal (Dev.tc n : Thread nD τ) sm a) k) Q) := by
  subst hn hsm ha
  unfold Bar0 Bar1
  iintro ⟨%K, #Hrec, #Hlev, ⟨%W, HO⟩, Ht0, Ht1, Hp0, Hp1, HH⟩ Hk
  iapply (Rounds.wp_signal 𝒱₀ ER (Rd m ρ) (c : Thread nD τ) none (dst := (bwd 0 c : Thread nD τ)) (κ := K (bwd 0 c, none))
      (d := 0) (by rw [duties_bar]; exact Finset.mem_univ _) (amount_bar m ρ (bwd 0 c) 0) () (O₁ c) rfl) $$ [HO Ht0 Hp0]
  · isplitr; · iapply (inv_at m ρ K (bwd 0 c, none)); iexact Hrec
    isplitl [HO]; · iexact HO
    isplitl [Ht0]; · iexact Ht0
    isplitl [Hp0]; · rw [payload_bar]; iexact Hp0
    iapply (reached_at m ρ K (bwd 0 c, none)); iexact Hrec
  iintro HO
  iapply Hk
  iexists K
  isplitr; · iexact Hrec
  isplitr; · iexact Hlev
  isplitl [HO]; · iexists W; iexact HO
  isplitl [Ht1]; · iexact Ht1
  isplitl [Hp1]; · iexact Hp1
  iexact HH

theorem sig1 {α : Type} {Q : α → sProp 𝕄} (c : Dev nD) {n : Dev nD} (hn : n = bwd 1 c) {sm : Sem sig} (hsm : sm = barS) {a : ℕ} (ha : a = 1)
    {k : PUnit → Prog (TpuEff nD τ sig (Elt F) Λ₀ .tc) α} :
    Bar1 m ρ c ⊢ iprop((Bar2 m ρ c -∗ WP c (k ⟨⟩) Q) -∗ WP c (.op (.semSignal (Dev.tc n : Thread nD τ) sm a) k) Q) := by
  subst hn hsm ha
  unfold Bar1 Bar2
  iintro ⟨%K, #Hrec, #Hlev, ⟨%W, HO⟩, Ht1, Hp1, HH⟩ Hk
  iapply (Rounds.wp_signal 𝒱₀ ER (Rd m ρ) (c : Thread nD τ) none (dst := (bwd 1 c : Thread nD τ)) (κ := K (bwd 1 c, none))
      (d := 1) (by rw [duties_bar]; exact Finset.mem_univ _) (amount_bar m ρ (bwd 1 c) 1) () (owed c 0) rfl) $$ [HO Ht1 Hp1]
  · isplitr; · iapply (inv_at m ρ K (bwd 1 c, none)); iexact Hrec
    isplitl [HO]; · iexact HO
    isplitl [Ht1]; · iexact Ht1
    isplitl [Hp1]; · rw [payload_bar]; iexact Hp1
    iapply (reached_at m ρ K (bwd 1 c, none)); iexact Hrec
  iintro HO
  iapply Hk
  iexists K
  isplitr; · iexact Hrec
  isplitr; · iexact Hlev
  isplitl [HO]; · iexists W; iexact HO
  iexact HH

omit [FloatOps F] in
theorem bigSep_rings (Φ : I → sProp 𝕄) : bigSep Finset.univ Φ
    = iprop((bigSep Finset.univ fun ku : Fin 6 × Fin 2 => Φ (0, ku.1, ku.2)) ∗ bigSep Finset.univ fun ku : Fin 6 × Fin 2 => Φ (1, ku.1, ku.2)) := by
  rw [bigSep_univ_prod]; exact BI.bigSep_fin_two _

theorem wt_bar {α : Type} {Q : α → sProp 𝕄} (c : Dev nD) {sm : Sem sig} (hsm : sm = barS) {a : ℕ} (ha : a = 2)
    {k : PUnit → Prog (TpuEff nD τ sig (Elt F) Λ₀ .tc) α} :
    Bar2 m ρ c ⊢ iprop(((Comm m ρ c 0 0 0 ∗ semVal (barCell c) 0) -∗ WP c (k ⟨⟩) Q) -∗ WP c (.op (.semWait sm a) k) Q) := by
  subst hsm ha
  unfold Bar2 Held
  iintro ⟨%K, #Hrec, #Hlev, ⟨%W, HO⟩, HcB, HatB, Htok, Hrr⟩ Hk
  ihave #HI := (inv_at m ρ K (c, none)) $$ Hrec
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar])) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [HatB] with HzB
  · isplitr; · iexact HI
    iexact HatB
  iapply Hk
  isplitr [HzB]; rotate_left
  · iexact HzB
  unfold Comm
  iexists K
  isplitr; · iexact Hrec
  isplitr; · iexact Hlev
  isplitl [HO]; · iexists _; iexact HO
  rw [show from_ srank 0 = Finset.univ from by decide +kernel, show flight 0 0 = ∅ from by decide +kernel, show upto no 0 = (∅ : Finset I) from by decide +kernel,
    show from_ rrank 0 = Finset.univ from by decide +kernel, show upto rrank 0 = ∅ from by decide +kernel, bigSep_empty, bigSep_empty, bigSep_empty]
  isplitl [Htok Hp]
  · rw [show (bigSep Finset.univ (SendReady (F := F) c) : sProp 𝕄) = iprop(bigSep Finset.univ (SendTok c) ∗ bigSep Finset.univ fun i : I => iprop(∃ f, rPts (fwd i.1 c) i fullShare f)) from bigSep_sep' _ _ _]
    isplitl [Htok]; · iexact Htok
    rw [bigSep_rings]
    iexact Hp
  isplitr; · iempintro
  isplitr; · iempintro
  isplitl [Hrr]; · iexact Hrr
  iempintro

/-! ## A send -/

theorem credit_rW (i : I) : (rW i).view.dmaCredit = N := rfl
set_option maxHeartbeats 800000 in
theorem snd {α : Type} {Q : α → sProp 𝕄} (c : Dev nD) (i : I) {s w : ℕ} (hs : srank i = s) (src : Memref sig .tc .vmem S128x1024 .bf16) (q : PosShare TreeShare)
    (fs : Buf (Elt F) (src.view.loc (c : Thread nD τ)))
    (hp₁ : (src.view.loc (c : Thread nD τ) ↦[src.view.set]{q} fs : sProp 𝕄) ⊢ sendPay m ρ c i)
    (hp₂ : ∀ fd, ((rW i).view.loc (fwd i.1 c : Thread nD τ) ↦[(rW i).view.set]{fullShare} ((rW i).view.write (Elt F) fd (src.view.read (Elt F) fs) Finset.univ) : sProp 𝕄)
      ⊢ rPts (fwd i.1 c) i fullShare (recvF m ρ (fwd i.1 c)))
    {n : Dev nD} (hn : n = fwd i.1 c) {ss sr : DmaSem sig} (hss : ss = sS i) (hsr : sr = rS i)
    {dst : Memref sig (Dev.tc n : Thread nD τ).2.kind .vmem S128x1024 .bf16} (hdst : dst = rW i)
    {hsc : dst.view.ref.isScScratch = false} {hsrcw : src.view.WordExact} {hdstw : dst.view.WordExact}
    {hsem : DmaTarget.Typed .vmem (.dma sr) (.remote (Dev.tc n : Thread nD τ) dst (.dma ss) hsc)}
    {k : PUnit → Prog (TpuEff nD τ sig (Elt F) Λ₀ .tc) α} :
    iprop(Comm m ρ c s 0 w ∗ (src.view.loc (c : Thread nD τ) ↦[src.view.set]{q} fs)) ⊢ iprop((Comm m ρ c (s + 1) 0 w -∗ WP c (k ⟨⟩) Q)
      -∗ WP c (.op (.enqueueDma src (.remote (Dev.tc n : Thread nD τ) dst (.dma ss) hsc) (.dma sr) hsrcw hdstw hsem) k) Q) := by
  subst hn hss hsr hdst
  unfold Comm
  rw [from_succ srank_inj hs, sep_insert (not_mem_from hs), flight_send hs, sep_insert (not_mem_flight hs)]
  unfold SendReady SendTok
  iintro ⟨⟨%K, #Hrec, #Hlev, ⟨%W, HO⟩, ⟨⟨⟨Ht1, Ht2, Hat⟩, ⟨%fd, Hdst⟩⟩, Hsr⟩, Hfl, Hret, Hrr, Hdone⟩, Hsrc⟩ Hk
  iapply (Rounds.wp_send_pointsTo 𝒱₀ ER (Rd m ρ) (c : Thread nD τ) none (κ₁ := K (c, some (false, i))) (κ₂ := K (fwd i.1 c, some (true, i)))
    (r₁ := 0) (r₂ := 0) (d₁ := 0) (d₂ := 0) (fd := fd)
    (by rw [duties_s]; exact Finset.mem_singleton_self _) (by rw [duties_r]; exact Finset.mem_singleton_self _)
    () () N (show (rW i).view.amount (SemLoc.dma (rS i)) = N from credit_rW i) (amount_s m ρ c i 0) (amount_r m ρ (fwd i.1 c) i 0) (owed c (s + 1)) (owed_succ c hs) (W := W)
    (by rw [payload_s]; exact hp₁)
    (by rw [payload_r]; exact hp₂ fd)) $$ [HO Ht1 Ht2 Hdst Hsrc]
  · isplitr; · iapply (inv_at m ρ K (c, some (false, i))); iexact Hrec
    isplitr; · iapply (inv_at m ρ K (fwd i.1 c, some (true, i))); iexact Hrec
    isplitl [Hsrc]; · iexact Hsrc
    isplitl [Hdst]; · unfold rPts; iexact Hdst
    isplitl [HO]; · iexact HO
    isplitl [Ht1]; · iexact Ht1
    isplitr; · iapply (reached_at m ρ K (c, some (false, i))); iexact Hrec
    isplitl [Ht2]; · iexact Ht2
    iapply (reached_at m ρ K (fwd i.1 c, some (true, i))); iexact Hrec
  iintro ⟨Hcr, HO⟩
  iapply Hk
  iexists K
  isplitr; · iexact Hrec
  isplitr; · iexact Hlev
  isplitl [HO]; · iexists W; iexact HO
  isplitl [Hsr]; · iexact Hsr
  isplitl [Hcr Hat Hfl]
  · isplitl [Hcr Hat]
    · unfold Sent
      isplitl [Hcr]; · iexact Hcr
      iexact Hat
    iexact Hfl
  isplitl [Hret]; · iexact Hret
  isplitl [Hrr]; · iexact Hrr
  iexact Hdone

/-- A landing window written from a source that holds its value. -/
theorem landed (c c' : Dev nD) (i : I) (src : Memref sig .tc .vmem S128x1024 .bf16) (fs : Buf (Elt F) (src.view.loc (c : Thread nD τ)))
    (h : ∀ z, src.view.read (Elt F) fs z = recvF m ρ c' ((rW i).view.emb z)) (fd) :
    ((rW i).view.loc (c' : Thread nD τ) ↦[(rW i).view.set]{fullShare} ((rW i).view.write (Elt F) fd (src.view.read (Elt F) fs) Finset.univ) : sProp 𝕄)
      ⊢ rPts c' i fullShare (recvF m ρ c') := by
  unfold rPts
  refine Entails.of_eq (pointsTo_congr fun x hx => ?_)
  obtain ⟨z, -, rfl⟩ := Finset.mem_map.mp hx
  rw [View.write_emb_of_mem _ _ (Finset.mem_univ z)]
  exact h z

/-- The source of a transfer of the device's own windows. -/
theorem snd_l {α : Type} {Q : α → sProp 𝕄} (c : Dev nD) (i : I) (p : Fin 4) (hp : i.2.1.val = p.val) {s w : ℕ} (hs : srank i = s)
    {src : Memref sig .tc .vmem S128x1024 .bf16} (hsrc : src = lW (i.1, p, i.2.2))
    {n : Dev nD} (hn : n = fwd i.1 c) {ss sr : DmaSem sig} (hss : ss = sS i) (hsr : sr = rS i)
    {dst : Memref sig (Dev.tc n : Thread nD τ).2.kind .vmem S128x1024 .bf16} (hdst : dst = rW i)
    {hsc : dst.view.ref.isScScratch = false} {hsrcw : src.view.WordExact} {hdstw : dst.view.WordExact}
    {hsem : DmaTarget.Typed .vmem (.dma sr) (.remote (Dev.tc n : Thread nD τ) dst (.dma ss) hsc)}
    {k : PUnit → Prog (TpuEff nD τ sig (Elt F) Λ₀ .tc) α} :
    iprop(Comm m ρ c s 0 w ∗ lPts c (i.1, p, i.2.2) (locF1 m ρ c)) ⊢ iprop((Comm m ρ c (s + 1) 0 w -∗ WP c (k ⟨⟩) Q)
      -∗ WP c (.op (.enqueueDma src (.remote (Dev.tc n : Thread nD τ) dst (.dma ss) hsc) (.dma sr) hsrcw hdstw hsem) k) Q) := by
  subst hsrc
  refine snd m ρ c i hs (lW (i.1, p, i.2.2)) fullShare (locF1 m ρ c) ?_ (landed m ρ c _ i _ _ fun z => ?_) hn hss hsr hdst
  · obtain ⟨r, k, u⟩ := i
    dsimp only at hp
    have hk : k = ⟨p.val, Nat.lt_trans p.isLt (by decide)⟩ := Fin.ext hp
    subst hk
    fin_cases p <;> exact Entails.refl _
  · exact (carry_loc m ρ c i.1 p i.2.1 hp i.2.2 _).symm

/-- A transfer of what landed, on. -/
theorem snd_r {α : Type} {Q : α → sProp 𝕄} (c : Dev nD) (i : I) (k₀ : Fin 6) (hk₀ : i.2.1.val = k₀.val + 1) (h3 : 3 ≤ k₀.val) {s w : ℕ} (hs : srank i = s)
    {src : Memref sig .tc .vmem S128x1024 .bf16} (hsrc : src = rW (i.1, k₀, i.2.2))
    {n : Dev nD} (hn : n = fwd i.1 c) {ss sr : DmaSem sig} (hss : ss = sS i) (hsr : sr = rS i)
    {dst : Memref sig (Dev.tc n : Thread nD τ).2.kind .vmem S128x1024 .bf16} (hdst : dst = rW i)
    {hsc : dst.view.ref.isScScratch = false} {hsrcw : src.view.WordExact} {hdstw : dst.view.WordExact}
    {hsem : DmaTarget.Typed .vmem (.dma sr) (.remote (Dev.tc n : Thread nD τ) dst (.dma ss) hsc)}
    {k : PUnit → Prog (TpuEff nD τ sig (Elt F) Λ₀ .tc) α} :
    iprop(Comm m ρ c s 0 w ∗ rPts c (i.1, k₀, i.2.2) fullShare.left (recvF m ρ c)) ⊢ iprop((Comm m ρ c (s + 1) 0 w -∗ WP c (k ⟨⟩) Q)
      -∗ WP c (.op (.enqueueDma src (.remote (Dev.tc n : Thread nD τ) dst (.dma ss) hsc) (.dma sr) hsrcw hdstw hsem) k) Q) := by
  subst hsrc
  refine snd m ρ c i hs (rW (i.1, k₀, i.2.2)) fullShare.left (recvF m ρ c) ?_ (landed m ρ c _ i _ _ fun z => ?_) hn hss hsr hdst
  · obtain ⟨r, k, u⟩ := i
    dsimp only at hk₀
    have : k₀.val < 5 := by omega
    have hc : k₀ = 3 ∨ k₀ = 4 := by
      rcases (show k₀.val = 3 ∨ k₀.val = 4 by omega) with h | h
      · exact Or.inl (Fin.ext h)
      · exact Or.inr (Fin.ext h)
    rcases hc with rfl | rfl
    · have hk : k = 4 := Fin.ext hk₀
      subst hk; exact Entails.refl _
    · have hk : k = 5 := Fin.ext hk₀
      subst hk; exact Entails.refl _
  · exact (carry_recv m ρ c i.1 k₀ i.2.1 hk₀ h3 i.2.2 _).symm

/-! ## The waits -/

theorem wt_r0 {α : Type} {Q : α → sProp 𝕄} (c : Dev nD) (i : I) {s w : ℕ} (hw : rrank i = w) (hs : 4 * (i.2.1.val + 1) ≤ s)
    {sm : DmaSem sig} (hsm : sm = rS i) {sp sp' : Space} {sh sh' : Shape} {e e' : EltTy}
    {src : Memref sig .tc sp' sh' e'} {dst : Memref sig .tc sp sh e} (hdst : dst.view.dmaCredit = N)
    {hsrcw : src.view.WordExact} {hdstw : dst.view.WordExact} (X : sProp 𝕄)
    (hX : recvPay m ρ c i ⊢ iprop(rPts c i (keepQ i) (recvF m ρ c) ∗ X))
    {k : PUnit → Prog (TpuEff nD τ sig (Elt F) Λ₀ .tc) α} :
    Comm m ρ c s 0 w ⊢ iprop(((Comm m ρ c s 0 (w + 1) ∗ X) -∗ WP c (k ⟨⟩) Q)
      -∗ WP c (.op (.waitDma2 sm src dst hsrcw hdstw) k) Q) := by
  subst hsm
  unfold Comm
  rw [from_succ rrank_inj hw, sep_insert (not_mem_from hw), upto_succ rrank_inj hw, sep_insert (not_mem_upto hw)]
  unfold RecvReady
  iintro ⟨%K, #Hrec, #Hlev, ⟨%W, HO⟩, Hsr, Hfl, Hret, ⟨⟨Hcr, Hat⟩, Hrr⟩, Hdone⟩ Hk
  ihave #HI := (inv_at m ρ K (c, some (true, i))) $$ Hrec
  iapply (Rounds.wp_wait_rest_token 𝒱₀ ER (Rd m ρ) (c : Thread nD τ) none (κ := K (c, some (true, i)))
      (wpE_waitDma2_eq 𝒱₀ (c : Thread nD τ) none Set.univ) (Set.mem_univ _) () (O := owed c s) (W := W) (R := 0) (m := 0) (T := ∅)
      (by rw [Nat.zero_add, expect_r, hdst])) $$ [Hcr HO Hat]
  · isplitr; · iexact HI
    isplitl [Hcr]; · rw [hdst]; iexact Hcr
    isplitl [HO]; · iexact HO
    isplitr; · iapply (mayWait_recv c i s hs); iexact Hlev
    iexact Hat
  iintro ⟨HO, Hat, -, Hpay⟩
  ihave Hp := (Entails.of_eq (rest_r m ρ c i)) $$ Hpay
  imod (Rounds.cell_close ER (Rd m ρ) (Set.mem_univ (K (c, some (true, i)))) (fun h => h) (R := 0 + 1) (duties_later m ρ (rCell c i))) $$ [Hat] with Hz
  · isplitr; · iexact HI
    iexact Hat
  ihave Hp' := hX $$ Hp
  icases Hp' with ⟨Hp, HX⟩
  iapply Hk
  isplitr [HX]; rotate_left
  · iexact HX
  iexists K
  isplitr; · iexact Hrec
  isplitr; · iexact Hlev
  isplitl [HO]; · iexists _; iexact HO
  isplitl [Hsr]; · iexact Hsr
  isplitl [Hfl]; · iexact Hfl
  isplitl [Hret]; · iexact Hret
  isplitl [Hrr]; · iexact Hrr
  isplitl [Hz Hp]
  · unfold Done
    isplitl [Hz]; · iexact Hz
    iexact Hp
  iexact Hdone

/-- A landing kept whole. -/
theorem wt_r {α : Type} {Q : α → sProp 𝕄} (c : Dev nD) (i : I) (hi : ¬(i.2.1 = 3 ∨ i.2.1 = 4)) {s w : ℕ} (hw : rrank i = w) (hs : 4 * (i.2.1.val + 1) ≤ s)
    {sm : DmaSem sig} (hsm : sm = rS i) {sp sp' : Space} {sh sh' : Shape} {e e' : EltTy}
    {src : Memref sig .tc sp' sh' e'} {dst : Memref sig .tc sp sh e} (hdst : dst.view.dmaCredit = N)
    {hsrcw : src.view.WordExact} {hdstw : dst.view.WordExact}
    {k : PUnit → Prog (TpuEff nD τ sig (Elt F) Λ₀ .tc) α} :
    Comm m ρ c s 0 w ⊢ iprop((Comm m ρ c s 0 (w + 1) -∗ WP c (k ⟨⟩) Q)
      -∗ WP c (.op (.waitDma2 sm src dst hsrcw hdstw) k) Q) := by
  iintro H Hk
  iapply (wt_r0 m ρ c i hw hs hsm hdst iprop(emp) (by
    unfold recvPay keepQ; rw [if_neg hi]; iintro H; isplitl [H]; · iexact H
    iempintro)) $$ H
  iintro ⟨H, -⟩
  iapply Hk; iexact H

/-- A landing to be sent on: half of its window apart. -/
theorem wt_rs {α : Type} {Q : α → sProp 𝕄} (c : Dev nD) (i : I) (hi : i.2.1 = 3 ∨ i.2.1 = 4) {s w : ℕ} (hw : rrank i = w) (hs : 4 * (i.2.1.val + 1) ≤ s)
    {sm : DmaSem sig} (hsm : sm = rS i) {sp sp' : Space} {sh sh' : Shape} {e e' : EltTy}
    {src : Memref sig .tc sp' sh' e'} {dst : Memref sig .tc sp sh e} (hdst : dst.view.dmaCredit = N)
    {hsrcw : src.view.WordExact} {hdstw : dst.view.WordExact}
    {k : PUnit → Prog (TpuEff nD τ sig (Elt F) Λ₀ .tc) α} :
    Comm m ρ c s 0 w ⊢ iprop(((Comm m ρ c s 0 (w + 1) ∗ rPts c i fullShare.left (recvF m ρ c)) -∗ WP c (k ⟨⟩) Q)
      -∗ WP c (.op (.waitDma2 sm src dst hsrcw hdstw) k) Q) :=
  wt_r0 m ρ c i hw hs hsm hdst _ (by
    unfold recvPay keepQ rPts; rw [if_pos hi]
    exact (pointsTo_share (PosShare.mem_left_op_right fullShare)).1.trans sep_comm.1)

theorem wt_s {α : Type} {Q : α → sProp 𝕄} (c : Dev nD) (i : I) {f : ℕ} (hf : no i = f)
    {sm : DmaSem sig} (hsm : sm = sS i) {sp sp' : Space} {sh sh' : Shape} {e e' : EltTy}
    {src : Memref sig .tc sp' sh' e'} {dst : Memref sig .tc sp sh e} (hdst : dst.view.dmaCredit = N)
    {hsrcw : src.view.WordExact} {hdstw : dst.view.WordExact}
    {k : PUnit → Prog (TpuEff nD τ sig (Elt F) Λ₀ .tc) α} :
    Comm m ρ c 24 f 24 ⊢ iprop((Comm m ρ c 24 (f + 1) 24 -∗ WP c (k ⟨⟩) Q)
      -∗ WP c (.op (.waitDma2 sm src dst hsrcw hdstw) k) Q) := by
  subst hsm
  unfold Comm
  rw [flight_wait hf, sep_insert (not_mem_flight' hf), upto_succ (rk := no) (fun _ _ => no_inj) hf, sep_insert (not_mem_upto hf), owed_end]
  unfold Sent
  iintro ⟨%K, #Hrec, #Hlev, ⟨%W, HO⟩, Hsr, ⟨⟨Hcr, Hat⟩, Hfl⟩, Hret, Hrr, Hdone⟩ Hk
  ihave #HI := (inv_at m ρ K (c, some (false, i))) $$ Hrec
  iapply (Rounds.wp_wait_rest_token 𝒱₀ ER (Rd m ρ) (c : Thread nD τ) none (κ := K (c, some (false, i)))
      (wpE_waitDma2_eq 𝒱₀ (c : Thread nD τ) none Set.univ) (Set.mem_univ _) () (O := 0) (W := W) (R := 0) (m := 0) (T := ∅)
      (by rw [Nat.zero_add, expect_s, hdst])) $$ [Hcr HO Hat]
  · isplitr; · iexact HI
    isplitl [Hcr]; · rw [hdst]; iexact Hcr
    isplitl [HO]; · iexact HO
    isplitr; · rw [MayWait_zero]; iempintro
    iexact Hat
  iintro ⟨HO, Hat, -, Hpay⟩
  ihave Hp := (Entails.of_eq (rest_s m ρ c i)) $$ Hpay
  imod (Rounds.cell_close ER (Rd m ρ) (Set.mem_univ (K (c, some (false, i)))) (fun h => h) (R := 0 + 1) (duties_later m ρ (sCell c i))) $$ [Hat] with Hz
  · isplitr; · iexact HI
    iexact Hat
  iapply Hk
  iexists K
  isplitr; · iexact Hrec
  isplitr; · iexact Hlev
  isplitl [HO]; · iexists _; iexact HO
  isplitl [Hsr]; · iexact Hsr
  isplitl [Hfl]; · iexact Hfl
  isplitl [Hz Hp Hret]
  · isplitl [Hz Hp]
    · unfold Retired
      isplitl [Hz]; · iexact Hz
      iexact Hp
    iexact Hret
  isplitl [Hrr]; · iexact Hrr
  iexact Hdone

/-! ## A read of what landed -/

theorem ld_recv {α : Type} {Q : α → sProp 𝕄} (c : Dev nD) (i : I) {s f w : ℕ} (hw : rrank i + 1 = w)
    {off : Fin 4 → ℕ} {h : ∀ a, off a + S1x1x128x1024.size a ≤ S2x6x256x1024.size a} (hoff : off = ![i.1.val, i.2.1.val, 128 * i.2.2.val, 0])
    {hl : (rM : Memref sig .tc .vmem S2x6x256x1024 .bf16).view.LoadsAt (Rect.unit (s := S2x6x256x1024) off S1x1x128x1024.size h).toLoadRect}
    {k : Vec F S1x1x128x1024 .bf16 → Prog (TpuEff nD τ sig (Elt F) Λ₀ .tc) α} :
    Comm m ρ c s f w ⊢ iprop((Comm m ρ c s f w -∗ WP c (k (VV m ρ i.2.1.val i.1 (rot i.1 (3 * (i.2.1.val + 1)) c) i.2.2)) Q)
      -∗ WP c (.op (.load rM (Rect.unit (s := S2x6x256x1024) off S1x1x128x1024.size h).toLoadRect hl) k) Q) := by
  subst hoff hw
  unfold Comm
  rw [upto_succ rrank_inj (a := i) rfl, sep_insert (not_mem_upto rfl)]
  unfold Done
  have he : (rPts c i (keepQ i) (recvF m ρ c) : sProp 𝕄) = (((c : Thread nD τ).loc cc0_scratch2) ↦[(rR i).set]{keepQ i} recvF m ρ c) := by
    unfold rPts
    rw [show (rW i).view.set = (rR i).set from (View.set_reshape _ _).trans (View.set_slice_whole _ _)]
  rw [he]
  iintro ⟨%K, #Hrec, #Hlev, HO, Hsr, Hfl, Hret, Hrr, ⟨⟨Hz, H⟩, Hdone⟩⟩ Hk
  iapply (wp_load_rect 𝒱₀ (c : Thread nD τ) none Set.univ (m := rM) (r := rR i)
    (S := (rR i).set) (q := keepQ i) (f := recvF m ρ c) (subset_of_eq (View.set_slice_whole _ _))) $$ H
  iintro H
  rw [show ((rM : Memref sig .tc .vmem S2x6x256x1024 .bf16).access (rR i) : View sig .tc _ _ _).read (Elt F) (recvF m ρ c)
    = VV m ρ i.2.1.val i.1 (rot i.1 (3 * (i.2.1.val + 1)) c) i.2.2 from funext fun z => recvF_emb m ρ c i z]
  iapply Hk
  iexists K
  isplitr; · iexact Hrec
  isplitr; · iexact Hlev
  isplitl [HO]; · iexact HO
  isplitl [Hsr]; · iexact Hsr
  isplitl [Hfl]; · iexact Hfl
  isplitl [Hret]; · iexact Hret
  isplitl [Hrr]; · iexact Hrr
  isplitl [Hz H]
  · isplitl [Hz]; · iexact Hz
    iexact H
  iexact Hdone

end Cert.KernelIdeal.Moe

end
-- ==== Proof.Payload.lean ====
/- The values that the program computes, in one form -/
module

public import proofs.«01_k».proof.Proof.Common

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One chunk's partial product, as each part of the program computes it -/

section chunk
variable (v2 : BitVec 32) (x : Vec F S256x512 .bf16) (e : Vec F S256x1 .i32) (w0 w1 w2 w3 : Vec F S1x512x1024 .bf16)
theorem chunk17 : (k0_pay17 (k0_pay11 x) (k0_pay15 v2 (k0_pay11 x) (k0_pay12 e) k0_pay13 (k0_pay14 v2) w0 w1 w2) (Scalar.ofBits .bf16 0x0000#16) (k0_pay16 v2 (k0_pay12 e)) w3 : FVec F S1x1x256x1024 .bf16) = chunkV v2 x e w0 w1 w2 w3 := rfl
theorem chunk23 : (k0_pay23 v2 (k0_pay18 x) (k0_pay19 e) (k0_pay20 v2 x e w0) (k0_pay21 v2 x e) (k0_pay22 w1) (constant S256x1024 .f32 0x00000000#32) w2 w3 : FVec F S1x1x256x1024 .bf16) = chunkV v2 x e w0 w1 w2 w3 := rfl
theorem chunk28 : (k0_pay28 (k0_pay24 x) (k0_pay25 e) (k0_pay27 v2 (k0_pay24 x) (k0_pay25 e) k0_pay26 4#32 w0 w1 w2) (Scalar.addi (Scalar.muli v2 4#32) 3#32) w3 : FVec F S1x1x256x1024 .bf16) = chunkV v2 x e w0 w1 w2 w3 := rfl
theorem chunk38 : (k0_pay38 v2 (k0_pay34 x) (k0_pay35 e) (k0_pay36 v2 x e w0) (k0_pay37 v2 x e) w1 w2 w3 : FVec F S1x1x256x1024 .bf16) = chunkV v2 x e w0 w1 w2 w3 := rfl
theorem chunk42 : (k0_pay42 (k0_pay39 x) (k0_pay40 e) (k0_pay41 v2 (k0_pay39 x) (k0_pay40 e) (Scalar.ofBits .f32 0x00000000#32) w0 w1 w2) (Scalar.muli v2 4#32) w3 : FVec F S1x1x256x1024 .bf16) = chunkV v2 x e w0 w1 w2 w3 := rfl
theorem chunk52 : (k0_pay52 v2 (k0_pay48 x) (k0_pay49 e) (k0_pay50 v2 x e w0) (k0_pay51 v2 x e) w1 w2 w3 : FVec F S1x1x256x1024 .bf16) = chunkV v2 x e w0 w1 w2 w3 := rfl
theorem chunk56 : (k0_pay56 v2 (k0_pay53 x) (k0_pay54 e) (k0_pay55 v2 (k0_pay53 x) e w0 w1 w2) w3 : FVec F S1x1x256x1024 .bf16) = chunkV v2 x e w0 w1 w2 w3 := rfl
end chunk

/-! ## The sums and the stores, as each part of the program computes them -/

section halves
variable (a b : Vec F S1x1x128x1024 .bf16)
theorem add30 : (k0_pay30 (k0_pay29 a) b : FVec F S1x1x128x1024 .bf16) = addV a b := rfl
theorem add31 : (k0_pay31 a b : FVec F S1x1x128x1024 .bf16) = addV a b := rfl
theorem add33 : (k0_pay33 a b : FVec F S1x1x128x1024 .bf16) = addV a b := rfl
theorem add44 : (k0_pay44 (k0_pay43 a) b : FVec F S1x1x128x1024 .bf16) = addV a b := rfl
theorem add45 : (k0_pay45 a b : FVec F S1x1x128x1024 .bf16) = addV a b := rfl
theorem add46 : (k0_pay46 a b : FVec F S1x1x128x1024 .bf16) = addV a b := rfl
theorem add47 : (k0_pay47 a b : FVec F S1x1x128x1024 .bf16) = addV a b := rfl
theorem fin59 : (k0_pay59 a b : FVec F S128x1024 .f32) = finV a b := rfl
theorem fin61 : (k0_pay61 a b : FVec F S128x1024 .f32) = finV a b := rfl
theorem fin63 : (k0_pay63 a b : FVec F S128x1024 .f32) = finV a b := rfl
theorem fin60 : (k0_pay60 a b : FVec F S1x1x128x1024 .bf16) = finT a b := rfl
theorem fin62 : (k0_pay62 a b : FVec F S1x1x128x1024 .bf16) = finT a b := rfl
theorem fin64 : (k0_pay64 a b : FVec F S1x1x128x1024 .bf16) = finT a b := rfl
theorem ext66 : (k0_pay66 a : FVec F S128x1024 .f32) = extV a := rfl
theorem ext67 : (k0_pay67 a : FVec F S128x1024 .f32) = extV a := rfl
theorem ext68 : (k0_pay68 a : FVec F S128x1024 .f32) = extV a := rfl
theorem ext69 : (k0_pay69 a : FVec F S128x1024 .f32) = extV a := rfl
theorem ext70 : (k0_pay70 a : FVec F S128x1024 .f32) = extV a := rfl
theorem ext71 : (k0_pay71 a : FVec F S128x1024 .f32) = extV a := rfl
theorem ext72 : (k0_pay72 a : FVec F S128x1024 .f32) = extV a := rfl
theorem ext73 : (k0_pay73 a : FVec F S128x1024 .f32) = extV a := rfl
theorem ext74 : (k0_pay74 a : FVec F S128x1024 .f32) = extV a := rfl
theorem ext75 : (k0_pay75 a : FVec F S128x1024 .f32) = extV a := rfl
theorem ext76 : (k0_pay76 a : FVec F S128x1024 .f32) = extV a := rfl
end halves

end Cert.KernelIdeal.Moe

end
-- ==== Proof.Body.lean ====
/- One device's body -/
module

public import proofs.«01_k».proof.Proof.Wire
public import proofs.«01_k».proof.Proof.Payload

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The offsets at the devices -/

theorem off1_at (c : Dev nD) (p : Fin 4) : k0_off1 c (BitVec.ofNat 32 ((4 - p.val) % 4)) = ![1024 * (0 : Fin 2).val + 256 * (rot 0 (3 * p.val) c).val, 0] := by
  revert c p; decide +kernel
theorem off2_at (c : Dev nD) (p : Fin 4) : k0_off2 c (BitVec.ofNat 32 ((4 - p.val) % 4)) = ![1024 * (0 : Fin 2).val + 256 * (rot 0 (3 * p.val) c).val, 0] := by
  revert c p; decide +kernel
theorem off3_at (c : Dev nD) (p : Fin 4) : k0_off3 c (BitVec.ofNat 32 p.val) = ![1024 * (1 : Fin 2).val + 256 * (rot 1 (3 * p.val) c).val, 0] := by
  revert c p; decide +kernel
theorem off4_at (c : Dev nD) (p : Fin 4) : k0_off4 c (BitVec.ofNat 32 p.val) = ![1024 * (1 : Fin 2).val + 256 * (rot 1 (3 * p.val) c).val, 0] := by
  revert c p; decide +kernel
theorem out0_at (c : Dev nD) (p : Fin 4) (u : Fin 2) : k0_off5 c (BitVec.ofNat 32 ((9 + 3 * p.val) % 4)) (BitVec.ofNat 32 (128 * u.val))
    = ![1024 * (0 : Fin 2).val + 256 * (oQ c (0, p, u)).val + 128 * u.val, 0] := by
  revert c p u; decide +kernel
theorem out1_at (c : Dev nD) (p : Fin 4) (u : Fin 2) : k0_off6 c (BitVec.ofNat 32 ((3 + p.val) % 4)) (BitVec.ofNat 32 (128 * u.val))
    = ![1024 * (1 : Fin 2).val + 256 * (oQ c (1, p, u)).val + 128 * u.val, 0] := by
  revert c p u; decide +kernel

theorem dev1_at (c : Dev nD) : (⟨k0_dev1 c, k0_dev1_lt c⟩ : Dev nD) = bwd 0 c := by revert c; decide +kernel
theorem dev2_at (c : Dev nD) : (⟨k0_dev2 c, k0_dev2_lt c⟩ : Dev nD) = bwd 1 c := by revert c; decide +kernel

theorem credit_lW (j : J) : (lW j).view.dmaCredit = N := rfl

theorem dev3_at (c : Dev nD) : (⟨k0_dev3 c, k0_dev3_lt c⟩ : Dev nD) = fwd 0 c := Fin.ext (k0_dev3_eq c)
theorem dev4_at (c : Dev nD) : (⟨k0_dev4 c, k0_dev4_lt c⟩ : Dev nD) = fwd 0 c := Fin.ext (k0_dev4_eq c)
theorem dev5_at (c : Dev nD) : (⟨k0_dev5 c, k0_dev5_lt c⟩ : Dev nD) = fwd 1 c := Fin.ext (k0_dev5_eq c)
theorem dev6_at (c : Dev nD) : (⟨k0_dev6 c, k0_dev6_lt c⟩ : Dev nD) = fwd 1 c := Fin.ext (k0_dev6_eq c)
theorem dev7_at (c : Dev nD) : (⟨k0_dev7 c, k0_dev7_lt c⟩ : Dev nD) = fwd 0 c := Fin.ext (k0_dev7_eq c)
theorem dev8_at (c : Dev nD) : (⟨k0_dev8 c, k0_dev8_lt c⟩ : Dev nD) = fwd 1 c := Fin.ext (k0_dev8_eq c)
theorem dev9_at (c : Dev nD) : (⟨k0_dev9 c, k0_dev9_lt c⟩ : Dev nD) = fwd 0 c := Fin.ext (k0_dev9_eq c)
theorem dev10_at (c : Dev nD) : (⟨k0_dev10 c, k0_dev10_lt c⟩ : Dev nD) = fwd 1 c := Fin.ext (k0_dev10_eq c)
theorem dev11_at (c : Dev nD) : (⟨k0_dev11 c, k0_dev11_lt c⟩ : Dev nD) = fwd 0 c := Fin.ext (k0_dev11_eq c)
theorem dev12_at (c : Dev nD) : (⟨k0_dev12 c, k0_dev12_lt c⟩ : Dev nD) = fwd 1 c := Fin.ext (k0_dev12_eq c)
theorem dev13_at (c : Dev nD) : (⟨k0_dev13 c, k0_dev13_lt c⟩ : Dev nD) = fwd 0 c := Fin.ext (k0_dev13_eq c)
theorem dev14_at (c : Dev nD) : (⟨k0_dev14 c, k0_dev14_lt c⟩ : Dev nD) = fwd 1 c := Fin.ext (k0_dev14_eq c)
theorem dev15_at (c : Dev nD) : (⟨k0_dev15 c, k0_dev15_lt c⟩ : Dev nD) = fwd 0 c := Fin.ext (k0_dev15_eq c)
theorem dev16_at (c : Dev nD) : (⟨k0_dev16 c, k0_dev16_lt c⟩ : Dev nD) = fwd 1 c := Fin.ext (k0_dev16_eq c)
theorem dev17_at (c : Dev nD) : (⟨k0_dev17 c, k0_dev17_lt c⟩ : Dev nD) = fwd 0 c := Fin.ext (k0_dev17_eq c)
theorem dev18_at (c : Dev nD) : (⟨k0_dev18 c, k0_dev18_lt c⟩ : Dev nD) = fwd 1 c := Fin.ext (k0_dev18_eq c)
theorem dev19_at (c : Dev nD) : (⟨k0_dev19 c, k0_dev19_lt c⟩ : Dev nD) = fwd 0 c := Fin.ext (k0_dev19_eq c)
theorem dev20_at (c : Dev nD) : (⟨k0_dev20 c, k0_dev20_lt c⟩ : Dev nD) = fwd 1 c := Fin.ext (k0_dev20_eq c)
theorem dev21_at (c : Dev nD) : (⟨k0_dev21 c, k0_dev21_lt c⟩ : Dev nD) = fwd 0 c := Fin.ext (k0_dev21_eq c)
theorem dev22_at (c : Dev nD) : (⟨k0_dev22 c, k0_dev22_lt c⟩ : Dev nD) = fwd 1 c := Fin.ext (k0_dev22_eq c)
theorem dev23_at (c : Dev nD) : (⟨k0_dev23 c, k0_dev23_lt c⟩ : Dev nD) = fwd 0 c := Fin.ext (k0_dev23_eq c)
theorem dev24_at (c : Dev nD) : (⟨k0_dev24 c, k0_dev24_lt c⟩ : Dev nD) = fwd 1 c := Fin.ext (k0_dev24_eq c)
theorem dev25_at (c : Dev nD) : (⟨k0_dev25 c, k0_dev25_lt c⟩ : Dev nD) = fwd 0 c := Fin.ext (k0_dev25_eq c)
theorem dev26_at (c : Dev nD) : (⟨k0_dev26 c, k0_dev26_lt c⟩ : Dev nD) = fwd 1 c := Fin.ext (k0_dev26_eq c)

/-! ## Before and after the body -/

def Pre (c : Dev nD) : sProp 𝕄 :=
  iprop(Bar0 m ρ c ∗ xPts m ρ c ∗ iPts m ρ c ∗ wPts m ρ c ∗ wbAt m ρ c 0 ∗ Parts m ρ c 0 4 ∗ oAt m ρ c 0)
def Post (c : Dev nD) : sProp 𝕄 :=
  iprop(Comm m ρ c 24 24 24 ∗ semVal (barCell c) 0 ∗ xPts m ρ c ∗ iPts m ρ c ∗ wPts m ρ c ∗ wbAt m ρ c 4 ∗ Parts m ρ c 8 16 ∗ oAt m ρ c 16)

set_option maxHeartbeats 100000000 in
set_option maxRecDepth 65536 in

/-- One device's body, one rule per operation in the program's order. -/
theorem sound_body (c : Dev nD) (Kt : PUnit → sProp 𝕄) :
    iprop(Pre m ρ c ∗ (Post m ρ c -∗ Kt ⟨⟩))
      ⊢ WP c (cc0_body xM (Memref.isWhole_whole _) iM (Memref.isWhole_whole _) wM (Memref.isWhole_whole _) oM (Memref.isWhole_whole _)
          bM (Memref.isWhole_whole _) lM (Memref.isWhole_whole _) rM (Memref.isWhole_whole _) cc0_scratch3 cc0_scratch4) Kt := by
  unfold Pre
  iintro ⟨⟨Hc, Hx, Hi, Hw, Hb, Hl, Ho⟩, Hk⟩
  rw [cc0_body_eq_skeleton]
  unfold cc0_body_skel
  rw [k0_part54_eq_skeleton]
  unfold k0_part54_skel
  simp only [Prog.lift, Prog.bind_op, Prog.bind_ret, Prog.pure_eq_ret, Prog.bind_assoc]
  rw [k0_part1_eq_skeleton]
  unfold k0_part1_skel
  simp only [semSignalWord, semWaitWord, Prog.lift, Prog.bind_op, Prog.bind_ret, Prog.pure_eq_ret]
  simp only [wp_deviceId]
  rw [k0_part2_eq_skeleton]
  unfold k0_part2_skel
  simp only [semSignalWord, semWaitWord, Prog.lift, Prog.bind_op, Prog.bind_ret, Prog.pure_eq_ret]
  iapply (sig0 m ρ c (dev1_at c) rfl rfl) $$ Hc; iintro Hc
  iapply (sig1 m ρ c (dev2_at c) rfl rfl) $$ Hc; iintro Hc
  iapply (wt_bar m ρ c rfl rfl) $$ Hc; iintro ⟨Hc, Hz⟩
  iapply (ld_w m ρ c 0 rfl) $$ Hw; iintro Hw
  iapply (ld_b_any m ρ c 0) $$ Hb; iintro %_ Hb
  iapply (st_b m ρ c 0 0 rfl rfl rfl) $$ Hb; iintro Hb
  iapply (ld_w m ρ c 1 rfl) $$ Hw; iintro Hw
  iapply (ld_b_any m ρ c 1) $$ Hb; iintro %_ Hb
  iapply (st_b m ρ c 1 1 rfl rfl rfl) $$ Hb; iintro Hb
  iapply (ld_w m ρ c 2 rfl) $$ Hw; iintro Hw
  rw [k0_part3_eq_skeleton]
  unfold k0_part3_skel
  simp only [semSignalWord, semWaitWord, Prog.lift, Prog.bind_op, Prog.bind_ret, Prog.pure_eq_ret]
  iapply (ld_b_any m ρ c 2) $$ Hb; iintro %_ Hb
  iapply (st_b m ρ c 2 2 rfl rfl rfl) $$ Hb; iintro Hb
  iapply (ld_w m ρ c 3 rfl) $$ Hw; iintro Hw
  iapply (ld_b_any m ρ c 3) $$ Hb; iintro %_ Hb
  iapply (st_b m ρ c 3 3 rfl rfl rfl) $$ Hb; iintro Hb
  iapply (ld_x m ρ c 0 _ (off1_at c 0)) $$ Hx; iintro Hx
  iapply (ld_i m ρ c 0 _ (off2_at c 0)) $$ Hi; iintro Hi
  iapply (ld_b m ρ c 0 rfl) $$ Hb; iintro Hb
  iapply (ld_b m ρ c 1 rfl) $$ Hb; iintro Hb
  rw [k0_part4_eq_skeleton]
  unfold k0_part4_skel
  simp only [semSignalWord, semWaitWord, Prog.lift, Prog.bind_op, Prog.bind_ret, Prog.pure_eq_ret]
  iapply (ld_b m ρ c 2 rfl) $$ Hb; iintro Hb
  iapply (ld_b m ρ c 3 rfl) $$ Hb; iintro Hb
  iapply (ld_chunk m ρ c 0 0 (a := 0) rfl rfl) $$ Hl; iintro %_ Hl
  iapply (st_chunk0 m ρ c 0 (a := 0) (b := 4) rfl (by decide) rfl rfl) $$ Hl; iintro ⟨Hl, Hs00, Hs01⟩
  rw [k0_part5_eq_skeleton]
  unfold k0_part5_skel
  simp only [semSignalWord, semWaitWord, Prog.lift, Prog.bind_op, Prog.bind_ret, Prog.pure_eq_ret]
  iapply (snd_l m ρ c (0, 0, 0) 0 (s := 0) rfl rfl rfl (dev3_at c) rfl rfl rfl) $$ [Hc Hs00]
  · isplitl [Hc]; · iexact Hc
    iexact Hs00
  iintro Hc
  iapply (snd_l m ρ c (0, 0, 1) 0 (s := 1) rfl rfl rfl (dev4_at c) rfl rfl rfl) $$ [Hc Hs01]
  · isplitl [Hc]; · iexact Hc
    iexact Hs01
  iintro Hc
  iapply (ld_x m ρ c 1 _ (off3_at c 0)) $$ Hx; iintro Hx
  iapply (ld_i m ρ c 1 _ (off4_at c 0)) $$ Hi; iintro Hi
  rw [k0_part6_eq_skeleton]
  unfold k0_part6_skel
  simp only [semSignalWord, semWaitWord, Prog.lift, Prog.bind_op, Prog.bind_ret, Prog.pure_eq_ret]
  iapply (ld_b m ρ c 0 rfl) $$ Hb; iintro Hb
  iapply (ld_b m ρ c 1 rfl) $$ Hb; iintro Hb
  iapply (ld_b m ρ c 2 rfl) $$ Hb; iintro Hb
  rw [k0_part7_eq_skeleton]
  unfold k0_part7_skel
  simp only [semSignalWord, semWaitWord, Prog.lift, Prog.bind_op, Prog.bind_ret, Prog.pure_eq_ret]
  iapply (ld_b m ρ c 3 rfl) $$ Hb; iintro Hb
  iapply (ld_chunk m ρ c 1 0 (a := 1) rfl rfl) $$ Hl; iintro %_ Hl
  iapply (st_chunk0 m ρ c 1 (a := 1) (b := 4) rfl (by decide) rfl (chunk17 _ _ _ _ _ _ _)) $$ Hl; iintro ⟨Hl, Hs10, Hs11⟩
  iapply (snd_l m ρ c (1, 0, 0) 0 (s := 2) rfl rfl rfl (dev5_at c) rfl rfl rfl) $$ [Hc Hs10]
  · isplitl [Hc]; · iexact Hc
    iexact Hs10
  iintro Hc
  rw [k0_part8_eq_skeleton]
  unfold k0_part8_skel
  simp only [semSignalWord, semWaitWord, Prog.lift, Prog.bind_op, Prog.bind_ret, Prog.pure_eq_ret]
  iapply (snd_l m ρ c (1, 0, 1) 0 (s := 3) rfl rfl rfl (dev6_at c) rfl rfl rfl) $$ [Hc Hs11]
  · isplitl [Hc]; · iexact Hc
    iexact Hs11
  iintro Hc
  iapply (ld_x m ρ c 0 _ (off1_at c 1)) $$ Hx; iintro Hx
  iapply (ld_i m ρ c 0 _ (off2_at c 1)) $$ Hi; iintro Hi
  iapply (ld_b m ρ c 0 rfl) $$ Hb; iintro Hb
  iapply (ld_b m ρ c 1 rfl) $$ Hb; iintro Hb
  rw [k0_part9_eq_skeleton]
  unfold k0_part9_skel
  simp only [semSignalWord, semWaitWord, Prog.lift, Prog.bind_op, Prog.bind_ret, Prog.pure_eq_ret]
  iapply (ld_b m ρ c 2 rfl) $$ Hb; iintro Hb
  iapply (ld_b m ρ c 3 rfl) $$ Hb; iintro Hb
  iapply (ld_chunk m ρ c 0 1 (a := 2) rfl rfl) $$ Hl; iintro %_ Hl
  iapply (st_chunk m ρ c 0 1 (a := 2) (b := 4) rfl (by decide) rfl (chunk23 _ _ _ _ _ _ _)) $$ Hl; iintro Hl
  iapply (ld_x m ρ c 1 _ (off3_at c 1)) $$ Hx; iintro Hx
  iapply (ld_i m ρ c 1 _ (off4_at c 1)) $$ Hi; iintro Hi
  rw [k0_part10_eq_skeleton]
  unfold k0_part10_skel
  simp only [semSignalWord, semWaitWord, Prog.lift, Prog.bind_op, Prog.bind_ret, Prog.pure_eq_ret]
  iapply (ld_b m ρ c 0 rfl) $$ Hb; iintro Hb
  iapply (ld_b m ρ c 1 rfl) $$ Hb; iintro Hb
  iapply (ld_b m ρ c 2 rfl) $$ Hb; iintro Hb
  rw [k0_part11_eq_skeleton]
  unfold k0_part11_skel
  simp only [semSignalWord, semWaitWord, Prog.lift, Prog.bind_op, Prog.bind_ret, Prog.pure_eq_ret]
  iapply (ld_b m ρ c 3 rfl) $$ Hb; iintro Hb
  iapply (ld_chunk m ρ c 1 1 (a := 3) rfl rfl) $$ Hl; iintro %_ Hl
  iapply (st_chunk m ρ c 1 1 (a := 3) (b := 4) rfl (by decide) rfl (chunk28 _ _ _ _ _ _ _)) $$ Hl; iintro Hl
  iapply (wt_r m ρ c (0, 0, 0) (s := 4) (w := 0) (by decide) rfl (by decide) rfl (credit_rW (0, 0, 0))) $$ Hc; iintro Hc
  iapply (ld_half m ρ c (0, 1, 0) (a := 4) (b := 4) rfl (by decide) rfl) $$ Hl; iintro Hl
  iapply (ld_recv m ρ c (0, 0, 0) (w := 1) rfl rfl) $$ Hc; iintro Hc
  rw [k0_part12_eq_skeleton]
  unfold k0_part12_skel
  simp only [semSignalWord, semWaitWord, Prog.lift, Prog.bind_op, Prog.bind_ret, Prog.pure_eq_ret]
  iapply (ld_half m ρ c (0, 1, 0) (a := 4) (b := 4) rfl (by decide) rfl) $$ Hl; iintro Hl
  iapply (st_half m ρ c (0, 1, 0) (a := 4) (b := 4) rfl (by decide) rfl ((add30 _ _).trans (sum_step m ρ c 0 0).1)) $$ Hl; iintro ⟨Hl, Hs00⟩
  iapply (snd_l m ρ c (0, 1, 0) 1 (s := 4) rfl rfl rfl (dev7_at c) rfl rfl rfl) $$ [Hc Hs00]
  · isplitl [Hc]; · iexact Hc
    iexact Hs00
  iintro Hc
  rw [k0_part13_eq_skeleton]
  unfold k0_part13_skel
  simp only [semSignalWord, semWaitWord, Prog.lift, Prog.bind_op, Prog.bind_ret, Prog.pure_eq_ret]
  iapply (wt_r m ρ c (1, 0, 0) (s := 5) (w := 1) (by decide) rfl (by decide) rfl (credit_rW (1, 0, 0))) $$ Hc; iintro Hc
  iapply (ld_half m ρ c (1, 1, 0) (a := 4) (b := 5) rfl (by decide) rfl) $$ Hl; iintro Hl
  iapply (ld_recv m ρ c (1, 0, 0) (w := 2) rfl rfl) $$ Hc; iintro Hc
  iapply (ld_half m ρ c (1, 1, 0) (a := 4) (b := 5) rfl (by decide) rfl) $$ Hl; iintro Hl
  iapply (st_half m ρ c (1, 1, 0) (a := 4) (b := 5) rfl (by decide) rfl ((add31 _ _).trans (sum_step m ρ c 1 0).1)) $$ Hl; iintro ⟨Hl, Hs10⟩
  iapply (snd_l m ρ c (1, 1, 0) 1 (s := 5) rfl rfl rfl (dev8_at c) rfl rfl rfl) $$ [Hc Hs10]
  · isplitl [Hc]; · iexact Hc
    iexact Hs10
  iintro Hc
  rw [k0_part14_eq_skeleton]
  unfold k0_part14_skel
  simp only [semSignalWord, semWaitWord, Prog.lift, Prog.bind_op, Prog.bind_ret, Prog.pure_eq_ret]
  iapply (wt_r m ρ c (0, 0, 1) (s := 6) (w := 2) (by decide) rfl (by decide) rfl (credit_rW (0, 0, 1))) $$ Hc; iintro Hc
  iapply (ld_half m ρ c (0, 1, 1) (a := 4) (b := 6) rfl (by decide) rfl) $$ Hl; iintro Hl
  iapply (ld_recv m ρ c (0, 0, 1) (w := 3) rfl rfl) $$ Hc; iintro Hc
  iapply (ld_half m ρ c (0, 1, 1) (a := 4) (b := 6) rfl (by decide) rfl) $$ Hl; iintro Hl
  iapply (st_half m ρ c (0, 1, 1) (a := 4) (b := 6) rfl (by decide) rfl (sum_step m ρ c 0 1).1) $$ Hl; iintro ⟨Hl, Hs01⟩
  rw [k0_part15_eq_skeleton]
  unfold k0_part15_skel
  simp only [semSignalWord, semWaitWord, Prog.lift, Prog.bind_op, Prog.bind_ret, Prog.pure_eq_ret]
  iapply (snd_l m ρ c (0, 1, 1) 1 (s := 6) rfl rfl rfl (dev9_at c) rfl rfl rfl) $$ [Hc Hs01]
  · isplitl [Hc]; · iexact Hc
    iexact Hs01
  iintro Hc
  iapply (wt_r m ρ c (1, 0, 1) (s := 7) (w := 3) (by decide) rfl (by decide) rfl (credit_rW (1, 0, 1))) $$ Hc; iintro Hc
  iapply (ld_half m ρ c (1, 1, 1) (a := 4) (b := 7) rfl (by decide) rfl) $$ Hl; iintro Hl
  iapply (ld_recv m ρ c (1, 0, 1) (w := 4) rfl rfl) $$ Hc; iintro Hc
  iapply (ld_half m ρ c (1, 1, 1) (a := 4) (b := 7) rfl (by decide) rfl) $$ Hl; iintro Hl
  iapply (st_half m ρ c (1, 1, 1) (a := 4) (b := 7) rfl (by decide) rfl ((add33 _ _).trans (sum_step m ρ c 1 1).1)) $$ Hl; iintro ⟨Hl, Hs11⟩
  rw [k0_part16_eq_skeleton]
  unfold k0_part16_skel
  simp only [semSignalWord, semWaitWord, Prog.lift, Prog.bind_op, Prog.bind_ret, Prog.pure_eq_ret]
  iapply (snd_l m ρ c (1, 1, 1) 1 (s := 7) rfl rfl rfl (dev10_at c) rfl rfl rfl) $$ [Hc Hs11]
  · isplitl [Hc]; · iexact Hc
    iexact Hs11
  iintro Hc
  iapply (ld_x m ρ c 0 _ (off1_at c 2)) $$ Hx; iintro Hx
  iapply (ld_i m ρ c 0 _ (off2_at c 2)) $$ Hi; iintro Hi
  iapply (ld_b m ρ c 0 rfl) $$ Hb; iintro Hb
  iapply (ld_b m ρ c 1 rfl) $$ Hb; iintro Hb
  rw [k0_part17_eq_skeleton]
  unfold k0_part17_skel
  simp only [semSignalWord, semWaitWord, Prog.lift, Prog.bind_op, Prog.bind_ret, Prog.pure_eq_ret]
  iapply (ld_b m ρ c 2 rfl) $$ Hb; iintro Hb
  iapply (ld_b m ρ c 3 rfl) $$ Hb; iintro Hb
  iapply (ld_chunk m ρ c 0 2 (a := 4) rfl rfl) $$ Hl; iintro %_ Hl
  iapply (st_chunk m ρ c 0 2 (a := 4) (b := 8) rfl (by decide) rfl (chunk38 _ _ _ _ _ _ _)) $$ Hl; iintro Hl
  iapply (ld_x m ρ c 1 _ (off3_at c 2)) $$ Hx; iintro Hx
  iapply (ld_i m ρ c 1 _ (off4_at c 2)) $$ Hi; iintro Hi
  rw [k0_part18_eq_skeleton]
  unfold k0_part18_skel
  simp only [semSignalWord, semWaitWord, Prog.lift, Prog.bind_op, Prog.bind_ret, Prog.pure_eq_ret]
  iapply (ld_b m ρ c 0 rfl) $$ Hb; iintro Hb
  iapply (ld_b m ρ c 1 rfl) $$ Hb; iintro Hb
  iapply (ld_b m ρ c 2 rfl) $$ Hb; iintro Hb
  rw [k0_part19_eq_skeleton]
  unfold k0_part19_skel
  simp only [semSignalWord, semWaitWord, Prog.lift, Prog.bind_op, Prog.bind_ret, Prog.pure_eq_ret]
  iapply (ld_b m ρ c 3 rfl) $$ Hb; iintro Hb
  iapply (ld_chunk m ρ c 1 2 (a := 5) rfl rfl) $$ Hl; iintro %_ Hl
  iapply (st_chunk m ρ c 1 2 (a := 5) (b := 8) rfl (by decide) rfl (chunk42 _ _ _ _ _ _ _)) $$ Hl; iintro Hl
  iapply (wt_r m ρ c (0, 1, 0) (s := 8) (w := 4) (by decide) rfl (by decide) rfl (credit_rW (0, 1, 0))) $$ Hc; iintro Hc
  iapply (ld_half m ρ c (0, 2, 0) (a := 6) (b := 8) rfl (by decide) rfl) $$ Hl; iintro Hl
  rw [k0_part20_eq_skeleton]
  unfold k0_part20_skel
  simp only [semSignalWord, semWaitWord, Prog.lift, Prog.bind_op, Prog.bind_ret, Prog.pure_eq_ret]
  iapply (ld_recv m ρ c (0, 1, 0) (w := 5) rfl rfl) $$ Hc; iintro Hc
  iapply (ld_half m ρ c (0, 2, 0) (a := 6) (b := 8) rfl (by decide) rfl) $$ Hl; iintro Hl
  iapply (st_half m ρ c (0, 2, 0) (a := 6) (b := 8) rfl (by decide) rfl ((add44 _ _).trans (sum_step m ρ c 0 0).2.1)) $$ Hl; iintro ⟨Hl, Hs00⟩
  iapply (snd_l m ρ c (0, 2, 0) 2 (s := 8) rfl rfl rfl (dev11_at c) rfl rfl rfl) $$ [Hc Hs00]
  · isplitl [Hc]; · iexact Hc
    iexact Hs00
  iintro Hc
  rw [k0_part21_eq_skeleton]
  unfold k0_part21_skel
  simp only [semSignalWord, semWaitWord, Prog.lift, Prog.bind_op, Prog.bind_ret, Prog.pure_eq_ret]
  iapply (wt_r m ρ c (1, 1, 0) (s := 9) (w := 5) (by decide) rfl (by decide) rfl (credit_rW (1, 1, 0))) $$ Hc; iintro Hc
  iapply (ld_half m ρ c (1, 2, 0) (a := 6) (b := 9) rfl (by decide) rfl) $$ Hl; iintro Hl
  iapply (ld_recv m ρ c (1, 1, 0) (w := 6) rfl rfl) $$ Hc; iintro Hc
  iapply (ld_half m ρ c (1, 2, 0) (a := 6) (b := 9) rfl (by decide) rfl) $$ Hl; iintro Hl
  iapply (st_half m ρ c (1, 2, 0) (a := 6) (b := 9) rfl (by decide) rfl ((add45 _ _).trans (sum_step m ρ c 1 0).2.1)) $$ Hl; iintro ⟨Hl, Hs10⟩
  iapply (snd_l m ρ c (1, 2, 0) 2 (s := 9) rfl rfl rfl (dev12_at c) rfl rfl rfl) $$ [Hc Hs10]
  · isplitl [Hc]; · iexact Hc
    iexact Hs10
  iintro Hc
  rw [k0_part22_eq_skeleton]
  unfold k0_part22_skel
  simp only [semSignalWord, semWaitWord, Prog.lift, Prog.bind_op, Prog.bind_ret, Prog.pure_eq_ret]
  iapply (wt_r m ρ c (0, 1, 1) (s := 10) (w := 6) (by decide) rfl (by decide) rfl (credit_rW (0, 1, 1))) $$ Hc; iintro Hc
  iapply (ld_half m ρ c (0, 2, 1) (a := 6) (b := 10) rfl (by decide) rfl) $$ Hl; iintro Hl
  iapply (ld_recv m ρ c (0, 1, 1) (w := 7) rfl rfl) $$ Hc; iintro Hc
  iapply (ld_half m ρ c (0, 2, 1) (a := 6) (b := 10) rfl (by decide) rfl) $$ Hl; iintro Hl
  iapply (st_half m ρ c (0, 2, 1) (a := 6) (b := 10) rfl (by decide) rfl ((add46 _ _).trans (sum_step m ρ c 0 1).2.1)) $$ Hl; iintro ⟨Hl, Hs01⟩
  rw [k0_part23_eq_skeleton]
  unfold k0_part23_skel
  simp only [semSignalWord, semWaitWord, Prog.lift, Prog.bind_op, Prog.bind_ret, Prog.pure_eq_ret]
  iapply (snd_l m ρ c (0, 2, 1) 2 (s := 10) rfl rfl rfl (dev13_at c) rfl rfl rfl) $$ [Hc Hs01]
  · isplitl [Hc]; · iexact Hc
    iexact Hs01
  iintro Hc
  iapply (wt_r m ρ c (1, 1, 1) (s := 11) (w := 7) (by decide) rfl (by decide) rfl (credit_rW (1, 1, 1))) $$ Hc; iintro Hc
  iapply (ld_half m ρ c (1, 2, 1) (a := 6) (b := 11) rfl (by decide) rfl) $$ Hl; iintro Hl
  iapply (ld_recv m ρ c (1, 1, 1) (w := 8) rfl rfl) $$ Hc; iintro Hc
  iapply (ld_half m ρ c (1, 2, 1) (a := 6) (b := 11) rfl (by decide) rfl) $$ Hl; iintro Hl
  iapply (st_half m ρ c (1, 2, 1) (a := 6) (b := 11) rfl (by decide) rfl ((add47 _ _).trans (sum_step m ρ c 1 1).2.1)) $$ Hl; iintro ⟨Hl, Hs11⟩
  rw [k0_part24_eq_skeleton]
  unfold k0_part24_skel
  simp only [semSignalWord, semWaitWord, Prog.lift, Prog.bind_op, Prog.bind_ret, Prog.pure_eq_ret]
  iapply (snd_l m ρ c (1, 2, 1) 2 (s := 11) rfl rfl rfl (dev14_at c) rfl rfl rfl) $$ [Hc Hs11]
  · isplitl [Hc]; · iexact Hc
    iexact Hs11
  iintro Hc
  iapply (ld_x m ρ c 0 _ (off1_at c 3)) $$ Hx; iintro Hx
  iapply (ld_i m ρ c 0 _ (off2_at c 3)) $$ Hi; iintro Hi
  iapply (ld_b m ρ c 0 rfl) $$ Hb; iintro Hb
  rw [k0_part25_eq_skeleton]
  unfold k0_part25_skel
  simp only [semSignalWord, semWaitWord, Prog.lift, Prog.bind_op, Prog.bind_ret, Prog.pure_eq_ret]
  iapply (ld_b m ρ c 1 rfl) $$ Hb; iintro Hb
  iapply (ld_b m ρ c 2 rfl) $$ Hb; iintro Hb
  iapply (ld_b m ρ c 3 rfl) $$ Hb; iintro Hb
  iapply (ld_chunk m ρ c 0 3 (a := 6) rfl rfl) $$ Hl; iintro %_ Hl
  iapply (st_chunk m ρ c 0 3 (a := 6) (b := 12) rfl (by decide) rfl (chunk52 _ _ _ _ _ _ _)) $$ Hl; iintro Hl
  iapply (ld_x m ρ c 1 _ (off3_at c 3)) $$ Hx; iintro Hx
  iapply (ld_i m ρ c 1 _ (off4_at c 3)) $$ Hi; iintro Hi
  rw [k0_part26_eq_skeleton]
  unfold k0_part26_skel
  simp only [semSignalWord, semWaitWord, Prog.lift, Prog.bind_op, Prog.bind_ret, Prog.pure_eq_ret]
  iapply (ld_b m ρ c 0 rfl) $$ Hb; iintro Hb
  iapply (ld_b m ρ c 1 rfl) $$ Hb; iintro Hb
  iapply (ld_b m ρ c 2 rfl) $$ Hb; iintro Hb
  rw [k0_part27_eq_skeleton]
  unfold k0_part27_skel
  simp only [semSignalWord, semWaitWord, Prog.lift, Prog.bind_op, Prog.bind_ret, Prog.pure_eq_ret]
  iapply (ld_b m ρ c 3 rfl) $$ Hb; iintro Hb
  iapply (ld_chunk m ρ c 1 3 (a := 7) rfl rfl) $$ Hl; iintro %_ Hl
  iapply (st_chunk m ρ c 1 3 (a := 7) (b := 12) rfl (by decide) rfl (chunk56 _ _ _ _ _ _ _)) $$ Hl; iintro Hl
  rw [k0_part28_eq_skeleton]
  unfold k0_part28_skel
  simp only [semSignalWord, semWaitWord, Prog.lift, Prog.bind_op, Prog.bind_ret, Prog.pure_eq_ret]
  iapply (wt_r m ρ c (0, 2, 0) (s := 12) (w := 8) (by decide) rfl (by decide) rfl (credit_rW (0, 2, 0))) $$ Hc; iintro Hc
  iapply (ld_half m ρ c (0, 3, 0) (a := 8) (b := 12) rfl (by decide) rfl) $$ Hl; iintro Hl
  iapply (ld_recv m ρ c (0, 2, 0) (w := 9) rfl rfl) $$ Hc; iintro Hc
  iapply (ld_half m ρ c (0, 3, 0) (a := 8) (b := 12) rfl (by decide) rfl) $$ Hl; iintro Hl
  iapply (st_half m ρ c (0, 3, 0) (a := 8) (b := 12) rfl (by decide) rfl (sum_step m ρ c 0 0).2.2) $$ Hl; iintro ⟨Hl, Hs00⟩
  iapply (snd_l m ρ c (0, 3, 0) 3 (s := 12) rfl rfl rfl (dev15_at c) rfl rfl rfl) $$ [Hc Hs00]
  · isplitl [Hc]; · iexact Hc
    iexact Hs00
  iintro Hc
  rw [k0_part29_eq_skeleton]
  unfold k0_part29_skel
  simp only [semSignalWord, semWaitWord, Prog.lift, Prog.bind_op, Prog.bind_ret, Prog.pure_eq_ret]
  iapply (ld_o m ρ c 0) $$ Ho; iintro %_ Ho
  iapply (st_o m ρ c (0, 0, 0) 0 rfl (out0_at c 0 0) (outB_own m ρ c 0 0).symm) $$ Ho; iintro Ho
  iapply (wt_r m ρ c (1, 2, 0) (s := 13) (w := 9) (by decide) rfl (by decide) rfl (credit_rW (1, 2, 0))) $$ Hc; iintro Hc
  iapply (ld_half m ρ c (1, 3, 0) (a := 8) (b := 13) rfl (by decide) rfl) $$ Hl; iintro Hl
  iapply (ld_recv m ρ c (1, 2, 0) (w := 10) rfl rfl) $$ Hc; iintro Hc
  iapply (ld_half m ρ c (1, 3, 0) (a := 8) (b := 13) rfl (by decide) rfl) $$ Hl; iintro Hl
  iapply (st_half m ρ c (1, 3, 0) (a := 8) (b := 13) rfl (by decide) rfl ((fin60 _ _).trans (sum_step m ρ c 1 0).2.2)) $$ Hl; iintro ⟨Hl, Hs10⟩
  rw [k0_part30_eq_skeleton]
  unfold k0_part30_skel
  simp only [semSignalWord, semWaitWord, Prog.lift, Prog.bind_op, Prog.bind_ret, Prog.pure_eq_ret]
  iapply (snd_l m ρ c (1, 3, 0) 3 (s := 13) rfl rfl rfl (dev16_at c) rfl rfl rfl) $$ [Hc Hs10]
  · isplitl [Hc]; · iexact Hc
    iexact Hs10
  iintro Hc
  iapply (ld_o m ρ c 1) $$ Ho; iintro %_ Ho
  iapply (st_o m ρ c (1, 0, 0) 1 rfl (out1_at c 0 0) ((fin59 _ _).trans (outB_own m ρ c 1 0).symm)) $$ Ho; iintro Ho
  rw [k0_part31_eq_skeleton]
  unfold k0_part31_skel
  simp only [semSignalWord, semWaitWord, Prog.lift, Prog.bind_op, Prog.bind_ret, Prog.pure_eq_ret]
  iapply (wt_r m ρ c (0, 2, 1) (s := 14) (w := 10) (by decide) rfl (by decide) rfl (credit_rW (0, 2, 1))) $$ Hc; iintro Hc
  iapply (ld_half m ρ c (0, 3, 1) (a := 8) (b := 14) rfl (by decide) rfl) $$ Hl; iintro Hl
  iapply (ld_recv m ρ c (0, 2, 1) (w := 11) rfl rfl) $$ Hc; iintro Hc
  iapply (ld_half m ρ c (0, 3, 1) (a := 8) (b := 14) rfl (by decide) rfl) $$ Hl; iintro Hl
  iapply (st_half m ρ c (0, 3, 1) (a := 8) (b := 14) rfl (by decide) rfl ((fin62 _ _).trans (sum_step m ρ c 0 1).2.2)) $$ Hl; iintro ⟨Hl, Hs01⟩
  iapply (snd_l m ρ c (0, 3, 1) 3 (s := 14) rfl rfl rfl (dev17_at c) rfl rfl rfl) $$ [Hc Hs01]
  · isplitl [Hc]; · iexact Hc
    iexact Hs01
  iintro Hc
  rw [k0_part32_eq_skeleton]
  unfold k0_part32_skel
  simp only [semSignalWord, semWaitWord, Prog.lift, Prog.bind_op, Prog.bind_ret, Prog.pure_eq_ret]
  iapply (ld_o m ρ c 2) $$ Ho; iintro %_ Ho
  iapply (st_o m ρ c (0, 0, 1) 2 rfl (out0_at c 0 1) ((fin61 _ _).trans (outB_own m ρ c 0 1).symm)) $$ Ho; iintro Ho
  iapply (wt_r m ρ c (1, 2, 1) (s := 15) (w := 11) (by decide) rfl (by decide) rfl (credit_rW (1, 2, 1))) $$ Hc; iintro Hc
  iapply (ld_half m ρ c (1, 3, 1) (a := 8) (b := 15) rfl (by decide) rfl) $$ Hl; iintro Hl
  iapply (ld_recv m ρ c (1, 2, 1) (w := 12) rfl rfl) $$ Hc; iintro Hc
  iapply (ld_half m ρ c (1, 3, 1) (a := 8) (b := 15) rfl (by decide) rfl) $$ Hl; iintro Hl
  iapply (st_half m ρ c (1, 3, 1) (a := 8) (b := 15) rfl (by decide) rfl ((fin64 _ _).trans (sum_step m ρ c 1 1).2.2)) $$ Hl; iintro ⟨Hl, Hs11⟩
  rw [k0_part33_eq_skeleton]
  unfold k0_part33_skel
  simp only [semSignalWord, semWaitWord, Prog.lift, Prog.bind_op, Prog.bind_ret, Prog.pure_eq_ret]
  iapply (snd_l m ρ c (1, 3, 1) 3 (s := 15) rfl rfl rfl (dev18_at c) rfl rfl rfl) $$ [Hc Hs11]
  · isplitl [Hc]; · iexact Hc
    iexact Hs11
  iintro Hc
  iapply (ld_o m ρ c 3) $$ Ho; iintro %_ Ho
  iapply (st_o m ρ c (1, 0, 1) 3 rfl (out1_at c 0 1) ((fin63 _ _).trans (outB_own m ρ c 1 1).symm)) $$ Ho; iintro Ho
  iapply (wt_rs m ρ c (0, 3, 0) (s := 16) (w := 12) (by decide) rfl (by decide) rfl (credit_rW (0, 3, 0))) $$ Hc; iintro ⟨Hc, Hs00⟩
  rw [k0_part34_eq_skeleton]
  unfold k0_part34_skel
  simp only [semSignalWord, semWaitWord, Prog.lift, Prog.bind_op, Prog.bind_ret, Prog.pure_eq_ret]
  iapply (snd_r m ρ c (0, 4, 0) 3 (s := 16) rfl (by decide) rfl rfl (dev19_at c) rfl rfl rfl) $$ [Hc Hs00]
  · isplitl [Hc]; · iexact Hc
    iexact Hs00
  iintro Hc
  iapply (ld_recv m ρ c (0, 3, 0) (w := 13) rfl rfl) $$ Hc; iintro Hc
  iapply (ld_o m ρ c 4) $$ Ho; iintro %_ Ho
  iapply (st_o m ρ c (0, 1, 0) 4 rfl (out0_at c 1 0) (outB_other m ρ c 0 0 3 (by decide) (by decide)).symm) $$ Ho; iintro Ho
  iapply (wt_rs m ρ c (1, 3, 0) (s := 17) (w := 13) (by decide) rfl (by decide) rfl (credit_rW (1, 3, 0))) $$ Hc; iintro ⟨Hc, Hs10⟩
  rw [k0_part35_eq_skeleton]
  unfold k0_part35_skel
  simp only [semSignalWord, semWaitWord, Prog.lift, Prog.bind_op, Prog.bind_ret, Prog.pure_eq_ret]
  iapply (snd_r m ρ c (1, 4, 0) 3 (s := 17) rfl (by decide) rfl rfl (dev20_at c) rfl rfl rfl) $$ [Hc Hs10]
  · isplitl [Hc]; · iexact Hc
    iexact Hs10
  iintro Hc
  iapply (ld_recv m ρ c (1, 3, 0) (w := 14) rfl rfl) $$ Hc; iintro Hc
  iapply (ld_o m ρ c 5) $$ Ho; iintro %_ Ho
  iapply (st_o m ρ c (1, 1, 0) 5 rfl (out1_at c 1 0) ((ext66 _).trans (outB_other m ρ c 1 0 3 (by decide) (by decide)).symm)) $$ Ho; iintro Ho
  rw [k0_part36_eq_skeleton]
  unfold k0_part36_skel
  simp only [semSignalWord, semWaitWord, Prog.lift, Prog.bind_op, Prog.bind_ret, Prog.pure_eq_ret]
  iapply (wt_rs m ρ c (0, 3, 1) (s := 18) (w := 14) (by decide) rfl (by decide) rfl (credit_rW (0, 3, 1))) $$ Hc; iintro ⟨Hc, Hs01⟩
  iapply (snd_r m ρ c (0, 4, 1) 3 (s := 18) rfl (by decide) rfl rfl (dev21_at c) rfl rfl rfl) $$ [Hc Hs01]
  · isplitl [Hc]; · iexact Hc
    iexact Hs01
  iintro Hc
  iapply (ld_recv m ρ c (0, 3, 1) (w := 15) rfl rfl) $$ Hc; iintro Hc
  iapply (ld_o m ρ c 6) $$ Ho; iintro %_ Ho
  iapply (st_o m ρ c (0, 1, 1) 6 rfl (out0_at c 1 1) ((ext67 _).trans (outB_other m ρ c 0 1 3 (by decide) (by decide)).symm)) $$ Ho; iintro Ho
  rw [k0_part37_eq_skeleton]
  unfold k0_part37_skel
  simp only [semSignalWord, semWaitWord, Prog.lift, Prog.bind_op, Prog.bind_ret, Prog.pure_eq_ret]
  iapply (wt_rs m ρ c (1, 3, 1) (s := 19) (w := 15) (by decide) rfl (by decide) rfl (credit_rW (1, 3, 1))) $$ Hc; iintro ⟨Hc, Hs11⟩
  iapply (snd_r m ρ c (1, 4, 1) 3 (s := 19) rfl (by decide) rfl rfl (dev22_at c) rfl rfl rfl) $$ [Hc Hs11]
  · isplitl [Hc]; · iexact Hc
    iexact Hs11
  iintro Hc
  rw [k0_part38_eq_skeleton]
  unfold k0_part38_skel
  simp only [semSignalWord, semWaitWord, Prog.lift, Prog.bind_op, Prog.bind_ret, Prog.pure_eq_ret]
  iapply (ld_recv m ρ c (1, 3, 1) (w := 16) rfl rfl) $$ Hc; iintro Hc
  iapply (ld_o m ρ c 7) $$ Ho; iintro %_ Ho
  iapply (st_o m ρ c (1, 1, 1) 7 rfl (out1_at c 1 1) ((ext68 _).trans (outB_other m ρ c 1 1 3 (by decide) (by decide)).symm)) $$ Ho; iintro Ho
  iapply (wt_rs m ρ c (0, 4, 0) (s := 20) (w := 16) (by decide) rfl (by decide) rfl (credit_rW (0, 4, 0))) $$ Hc; iintro ⟨Hc, Hs00⟩
  rw [k0_part39_eq_skeleton]
  unfold k0_part39_skel
  simp only [semSignalWord, semWaitWord, Prog.lift, Prog.bind_op, Prog.bind_ret, Prog.pure_eq_ret]
  iapply (snd_r m ρ c (0, 5, 0) 4 (s := 20) rfl (by decide) rfl rfl (dev23_at c) rfl rfl rfl) $$ [Hc Hs00]
  · isplitl [Hc]; · iexact Hc
    iexact Hs00
  iintro Hc
  iapply (ld_recv m ρ c (0, 4, 0) (w := 17) rfl rfl) $$ Hc; iintro Hc
  iapply (ld_o m ρ c 8) $$ Ho; iintro %_ Ho
  iapply (st_o m ρ c (0, 2, 0) 8 rfl (out0_at c 2 0) ((ext69 _).trans (outB_other m ρ c 0 0 4 (by decide) (by decide)).symm)) $$ Ho; iintro Ho
  iapply (wt_rs m ρ c (1, 4, 0) (s := 21) (w := 17) (by decide) rfl (by decide) rfl (credit_rW (1, 4, 0))) $$ Hc; iintro ⟨Hc, Hs10⟩
  rw [k0_part40_eq_skeleton]
  unfold k0_part40_skel
  simp only [semSignalWord, semWaitWord, Prog.lift, Prog.bind_op, Prog.bind_ret, Prog.pure_eq_ret]
  iapply (snd_r m ρ c (1, 5, 0) 4 (s := 21) rfl (by decide) rfl rfl (dev24_at c) rfl rfl rfl) $$ [Hc Hs10]
  · isplitl [Hc]; · iexact Hc
    iexact Hs10
  iintro Hc
  iapply (ld_recv m ρ c (1, 4, 0) (w := 18) rfl rfl) $$ Hc; iintro Hc
  iapply (ld_o m ρ c 9) $$ Ho; iintro %_ Ho
  iapply (st_o m ρ c (1, 2, 0) 9 rfl (out1_at c 2 0) ((ext70 _).trans (outB_other m ρ c 1 0 4 (by decide) (by decide)).symm)) $$ Ho; iintro Ho
  rw [k0_part41_eq_skeleton]
  unfold k0_part41_skel
  simp only [semSignalWord, semWaitWord, Prog.lift, Prog.bind_op, Prog.bind_ret, Prog.pure_eq_ret]
  iapply (wt_rs m ρ c (0, 4, 1) (s := 22) (w := 18) (by decide) rfl (by decide) rfl (credit_rW (0, 4, 1))) $$ Hc; iintro ⟨Hc, Hs01⟩
  iapply (snd_r m ρ c (0, 5, 1) 4 (s := 22) rfl (by decide) rfl rfl (dev25_at c) rfl rfl rfl) $$ [Hc Hs01]
  · isplitl [Hc]; · iexact Hc
    iexact Hs01
  iintro Hc
  iapply (ld_recv m ρ c (0, 4, 1) (w := 19) rfl rfl) $$ Hc; iintro Hc
  iapply (ld_o m ρ c 10) $$ Ho; iintro %_ Ho
  iapply (st_o m ρ c (0, 2, 1) 10 rfl (out0_at c 2 1) ((ext71 _).trans (outB_other m ρ c 0 1 4 (by decide) (by decide)).symm)) $$ Ho; iintro Ho
  rw [k0_part42_eq_skeleton]
  unfold k0_part42_skel
  simp only [semSignalWord, semWaitWord, Prog.lift, Prog.bind_op, Prog.bind_ret, Prog.pure_eq_ret]
  iapply (wt_rs m ρ c (1, 4, 1) (s := 23) (w := 19) (by decide) rfl (by decide) rfl (credit_rW (1, 4, 1))) $$ Hc; iintro ⟨Hc, Hs11⟩
  iapply (snd_r m ρ c (1, 5, 1) 4 (s := 23) rfl (by decide) rfl rfl (dev26_at c) rfl rfl rfl) $$ [Hc Hs11]
  · isplitl [Hc]; · iexact Hc
    iexact Hs11
  iintro Hc
  iapply (ld_recv m ρ c (1, 4, 1) (w := 20) rfl rfl) $$ Hc; iintro Hc
  iapply (ld_o m ρ c 11) $$ Ho; iintro %_ Ho
  iapply (st_o m ρ c (1, 2, 1) 11 rfl (out1_at c 2 1) ((ext72 _).trans (outB_other m ρ c 1 1 4 (by decide) (by decide)).symm)) $$ Ho; iintro Ho
  rw [k0_part43_eq_skeleton]
  unfold k0_part43_skel
  simp only [semSignalWord, semWaitWord, Prog.lift, Prog.bind_op, Prog.bind_ret, Prog.pure_eq_ret]
  iapply (wt_r m ρ c (0, 5, 0) (s := 24) (w := 20) (by decide) rfl (by decide) rfl (credit_rW (0, 5, 0))) $$ Hc; iintro Hc
  iapply (ld_recv m ρ c (0, 5, 0) (w := 21) rfl rfl) $$ Hc; iintro Hc
  iapply (ld_o m ρ c 12) $$ Ho; iintro %_ Ho
  iapply (st_o m ρ c (0, 3, 0) 12 rfl (out0_at c 3 0) ((ext73 _).trans (outB_other m ρ c 0 0 5 (by decide) (by decide)).symm)) $$ Ho; iintro Ho
  rw [k0_part44_eq_skeleton]
  unfold k0_part44_skel
  simp only [semSignalWord, semWaitWord, Prog.lift, Prog.bind_op, Prog.bind_ret, Prog.pure_eq_ret]
  iapply (wt_r m ρ c (1, 5, 0) (s := 24) (w := 21) (by decide) rfl (by decide) rfl (credit_rW (1, 5, 0))) $$ Hc; iintro Hc
  iapply (ld_recv m ρ c (1, 5, 0) (w := 22) rfl rfl) $$ Hc; iintro Hc
  iapply (ld_o m ρ c 13) $$ Ho; iintro %_ Ho
  iapply (st_o m ρ c (1, 3, 0) 13 rfl (out1_at c 3 0) ((ext74 _).trans (outB_other m ρ c 1 0 5 (by decide) (by decide)).symm)) $$ Ho; iintro Ho
  iapply (wt_r m ρ c (0, 5, 1) (s := 24) (w := 22) (by decide) rfl (by decide) rfl (credit_rW (0, 5, 1))) $$ Hc; iintro Hc
  rw [k0_part45_eq_skeleton]
  unfold k0_part45_skel
  simp only [semSignalWord, semWaitWord, Prog.lift, Prog.bind_op, Prog.bind_ret, Prog.pure_eq_ret]
  iapply (ld_recv m ρ c (0, 5, 1) (w := 23) rfl rfl) $$ Hc; iintro Hc
  iapply (ld_o m ρ c 14) $$ Ho; iintro %_ Ho
  iapply (st_o m ρ c (0, 3, 1) 14 rfl (out0_at c 3 1) ((ext75 _).trans (outB_other m ρ c 0 1 5 (by decide) (by decide)).symm)) $$ Ho; iintro Ho
  iapply (wt_r m ρ c (1, 5, 1) (s := 24) (w := 23) (by decide) rfl (by decide) rfl (credit_rW (1, 5, 1))) $$ Hc; iintro Hc
  iapply (ld_recv m ρ c (1, 5, 1) (w := 24) rfl rfl) $$ Hc; iintro Hc
  iapply (ld_o m ρ c 15) $$ Ho; iintro %_ Ho
  iapply (st_o m ρ c (1, 3, 1) 15 rfl (out1_at c 3 1) ((ext76 _).trans (outB_other m ρ c 1 1 5 (by decide) (by decide)).symm)) $$ Ho; iintro Ho
  rw [k0_part46_eq_skeleton]
  unfold k0_part46_skel
  simp only [semSignalWord, semWaitWord, Prog.lift, Prog.bind_op, Prog.bind_ret, Prog.pure_eq_ret]
  iapply (wt_s m ρ c (0, 0, 0) (f := 0) rfl rfl (credit_lW (0, 0, 0))) $$ Hc; iintro Hc
  iapply (wt_s m ρ c (0, 0, 1) (f := 1) rfl rfl (credit_lW (0, 0, 1))) $$ Hc; iintro Hc
  rw [k0_part47_eq_skeleton]
  unfold k0_part47_skel
  simp only [semSignalWord, semWaitWord, Prog.lift, Prog.bind_op, Prog.bind_ret, Prog.pure_eq_ret]
  iapply (wt_s m ρ c (0, 1, 0) (f := 2) rfl rfl (credit_lW (0, 1, 0))) $$ Hc; iintro Hc
  iapply (wt_s m ρ c (0, 1, 1) (f := 3) rfl rfl (credit_lW (0, 1, 1))) $$ Hc; iintro Hc
  iapply (wt_s m ρ c (0, 2, 0) (f := 4) rfl rfl (credit_lW (0, 2, 0))) $$ Hc; iintro Hc
  rw [k0_part48_eq_skeleton]
  unfold k0_part48_skel
  simp only [semSignalWord, semWaitWord, Prog.lift, Prog.bind_op, Prog.bind_ret, Prog.pure_eq_ret]
  iapply (wt_s m ρ c (0, 2, 1) (f := 5) rfl rfl (credit_lW (0, 2, 1))) $$ Hc; iintro Hc
  iapply (wt_s m ρ c (0, 3, 0) (f := 6) rfl rfl (credit_lW (0, 3, 0))) $$ Hc; iintro Hc
  iapply (wt_s m ρ c (0, 3, 1) (f := 7) rfl rfl (credit_lW (0, 3, 1))) $$ Hc; iintro Hc
  rw [k0_part49_eq_skeleton]
  unfold k0_part49_skel
  simp only [semSignalWord, semWaitWord, Prog.lift, Prog.bind_op, Prog.bind_ret, Prog.pure_eq_ret]
  iapply (wt_s m ρ c (0, 4, 0) (f := 8) rfl rfl (credit_rW (0, 3, 0))) $$ Hc; iintro Hc
  iapply (wt_s m ρ c (0, 4, 1) (f := 9) rfl rfl (credit_rW (0, 3, 1))) $$ Hc; iintro Hc
  rw [k0_part50_eq_skeleton]
  unfold k0_part50_skel
  simp only [semSignalWord, semWaitWord, Prog.lift, Prog.bind_op, Prog.bind_ret, Prog.pure_eq_ret]
  iapply (wt_s m ρ c (0, 5, 0) (f := 10) rfl rfl (credit_rW (0, 4, 0))) $$ Hc; iintro Hc
  iapply (wt_s m ρ c (0, 5, 1) (f := 11) rfl rfl (credit_rW (0, 4, 1))) $$ Hc; iintro Hc
  iapply (wt_s m ρ c (1, 0, 0) (f := 12) rfl rfl (credit_lW (1, 0, 0))) $$ Hc; iintro Hc
  rw [k0_part51_eq_skeleton]
  unfold k0_part51_skel
  simp only [semSignalWord, semWaitWord, Prog.lift, Prog.bind_op, Prog.bind_ret, Prog.pure_eq_ret]
  iapply (wt_s m ρ c (1, 0, 1) (f := 13) rfl rfl (credit_lW (1, 0, 1))) $$ Hc; iintro Hc
  iapply (wt_s m ρ c (1, 1, 0) (f := 14) rfl rfl (credit_lW (1, 1, 0))) $$ Hc; iintro Hc
  iapply (wt_s m ρ c (1, 1, 1) (f := 15) rfl rfl (credit_lW (1, 1, 1))) $$ Hc; iintro Hc
  rw [k0_part52_eq_skeleton]
  unfold k0_part52_skel
  simp only [semSignalWord, semWaitWord, Prog.lift, Prog.bind_op, Prog.bind_ret, Prog.pure_eq_ret]
  iapply (wt_s m ρ c (1, 2, 0) (f := 16) rfl rfl (credit_lW (1, 2, 0))) $$ Hc; iintro Hc
  iapply (wt_s m ρ c (1, 2, 1) (f := 17) rfl rfl (credit_lW (1, 2, 1))) $$ Hc; iintro Hc
  iapply (wt_s m ρ c (1, 3, 0) (f := 18) rfl rfl (credit_lW (1, 3, 0))) $$ Hc; iintro Hc
  rw [k0_part53_eq_skeleton]
  unfold k0_part53_skel
  simp only [semSignalWord, semWaitWord, Prog.lift, Prog.bind_op, Prog.bind_ret, Prog.pure_eq_ret]
  iapply (wt_s m ρ c (1, 3, 1) (f := 19) rfl rfl (credit_lW (1, 3, 1))) $$ Hc; iintro Hc
  iapply (wt_s m ρ c (1, 4, 0) (f := 20) rfl rfl (credit_rW (1, 3, 0))) $$ Hc; iintro Hc
  iapply (wt_s m ρ c (1, 4, 1) (f := 21) rfl rfl (credit_rW (1, 3, 1))) $$ Hc; iintro Hc
  iapply (wt_s m ρ c (1, 5, 0) (f := 22) rfl rfl (credit_rW (1, 4, 0))) $$ Hc; iintro Hc
  iapply (wt_s m ρ c (1, 5, 1) (f := 23) rfl rfl (credit_rW (1, 4, 1))) $$ Hc; iintro Hc
  unfold WP
  rw [wp_ret]
  imodintro
  iapply Hk
  unfold Post
  isplitl [Hc]; · iexact Hc
  isplitl [Hz]; · iexact Hz
  isplitl [Hx]; · iexact Hx
  isplitl [Hi]; · iexact Hi
  isplitl [Hw]; · iexact Hw
  isplitl [Hb]; · iexact Hb
  isplitl [Hl]; · iexact Hl
  iexact Ho

end Cert.KernelIdeal.Moe

end
-- ==== Proof.Ends.lean ====
/- What a device holds before its body and after it: the buffers cut into windows and joined again. -/
module

public import proofs.«01_k».proof.Proof.Body

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## By position -/

/-- Pairs of a position and a ring's half, as triples. -/
def byPos (n : ℕ) : Fin n × (Fin 2 × Fin 2) ≃ Fin 2 × Fin n × Fin 2 :=
  ⟨fun x => (x.2.1, x.1, x.2.2), fun i => (i.2.1, i.1, i.2.2), fun _ => rfl, fun _ => rfl⟩

omit [FloatOps F] in
theorem bigSep_pos {n : ℕ} (Φ : Fin 2 × Fin n × Fin 2 → sProp 𝕄) : bigSep Finset.univ Φ
    = bigSep Finset.univ fun k : Fin n => bigSep Finset.univ fun ru : Fin 2 × Fin 2 => Φ (ru.1, k, ru.2) := by
  rw [bigSep_univ_equiv (byPos n) Φ, bigSep_univ_prod]; rfl
omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The buffers cut into windows -/

theorem mem_rR {i : I} {x : S2x6x256x1024.Idx} :
    x ∈ (rR i).set ↔ (x 0).val = i.1.val ∧ (x 1).val = i.2.1.val ∧ 128 * i.2.2.val ≤ (x 2).val ∧ (x 2).val < 128 * i.2.2.val + 128 := by
  rw [Rect.mem_set_unit]
  have h3 : (x 3).val < 1024 := (x 3).isLt
  constructor
  · intro h
    have h0 : i.1.val ≤ (x 0).val ∧ (x 0).val < i.1.val + 1 := h 0
    have h1 : i.2.1.val ≤ (x 1).val ∧ (x 1).val < i.2.1.val + 1 := h 1
    have h2 : 128 * i.2.2.val ≤ (x 2).val ∧ (x 2).val < 128 * i.2.2.val + 128 := h 2
    omega
  · intro h a
    fin_cases a
    · show i.1.val ≤ (x 0).val ∧ (x 0).val < i.1.val + 1; omega
    · show i.2.1.val ≤ (x 1).val ∧ (x 1).val < i.2.1.val + 1; omega
    · show 128 * i.2.2.val ≤ (x 2).val ∧ (x 2).val < 128 * i.2.2.val + 128; omega
    · show 0 ≤ (x 3).val ∧ (x 3).val < 0 + 1024; omega

theorem rR_disjoint (i j : I) (h : i ≠ j) : Disjoint (rR i).set (rR j).set := by
  rw [Finset.disjoint_left]
  intro x hx hx'
  rw [mem_rR] at hx hx'
  exact h (Prod.ext (Fin.ext (by omega)) (Prod.ext (Fin.ext (by omega)) (Fin.ext (by omega))))
theorem rR_cover : Finset.univ.biUnion (fun i : I => (rR i).set) = Finset.univ := by
  ext x
  simp only [Finset.mem_biUnion, Finset.mem_univ, _root_.true_and, iff_true]
  have h2 : (x 2).val < 256 := (x 2).isLt
  refine ⟨(x 0, x 1, ⟨(x 2).val / 128, by omega⟩), mem_rR.mpr ⟨rfl, rfl, ?_, ?_⟩⟩
  · show 128 * ((x 2).val / 128) ≤ (x 2).val; omega
  · show (x 2).val < 128 * ((x 2).val / 128) + 128; omega
theorem lR_cover : Finset.univ.biUnion (fun j : J => (lR j).set) = Finset.univ := by
  ext x
  simp only [Finset.mem_biUnion, Finset.mem_univ, _root_.true_and, iff_true]
  have h2 : (x 2).val < 256 := (x 2).isLt
  refine ⟨(x 0, x 1, ⟨(x 2).val / 128, by omega⟩), mem_lR.mpr ⟨rfl, rfl, ?_, ?_⟩⟩
  · show 128 * ((x 2).val / 128) ≤ (x 2).val; omega
  · show (x 2).val < 128 * ((x 2).val / 128) + 128; omega
theorem cR_disjoint (i j : Fin 2 × Fin 4) (h : i ≠ j) : Disjoint (cR i.1 i.2).set (cR j.1 j.2).set := by
  rw [Finset.disjoint_left]
  intro x hx hx'
  rw [mem_cR] at hx hx'
  exact h (Prod.ext (Fin.ext (by omega)) (Fin.ext (by omega)))
theorem cR_cover : Finset.univ.biUnion (fun i : Fin 2 × Fin 4 => (cR i.1 i.2).set) = Finset.univ := by
  ext x
  simp only [Finset.mem_biUnion, Finset.mem_univ, _root_.true_and, iff_true]
  exact ⟨(x 0, x 1), mem_cR.mpr ⟨rfl, rfl⟩⟩

omit [FloatOps F] in
theorem rPts_rect (c : Dev nD) (i : I) (q : PosShare TreeShare) (f : (cc0_scratch2 : Ref sig .tc).ty.Contents (Elt F)) :
    rPts c i q f = (((c : Thread nD τ).loc cc0_scratch2) ↦[(rR i).set]{q} f : sProp 𝕄) := by
  unfold rPts
  rw [show (rW i).view.set = (rR i).set from (View.set_reshape _ _).trans (View.set_slice_whole _ _)]

omit [FloatOps F] in
theorem whole_blocks {ℓ : Loc nD τ sig} {α : Type} [Fintype α] (S : α → Finset (Idx ℓ)) (hd : ∀ a b, a ≠ b → Disjoint (S a) (S b))
    (hc : Finset.univ.biUnion S = Finset.univ) (f : Buf (Elt F) ℓ) : (ℓ ↦{fullShare} f : sProp 𝕄) = bigSep Finset.univ fun a => ℓ ↦[S a]{fullShare} f :=
  (congrArg (fun T => (ℓ ↦[T]{fullShare} f : sProp 𝕄)) hc.symm).trans (pointsTo_biUnion Finset.univ S fun a _ b _ h => hd a b h)

omit [FloatOps F] in
theorem land_whole (c : Dev nD) (f : (cc0_scratch2 : Ref sig .tc).ty.Contents (Elt F)) :
    (((c : Thread nD τ).loc cc0_scratch2) ↦{fullShare} f : sProp 𝕄) = bigSep Finset.univ fun i : I => rPts c i fullShare f := by
  rw [whole_blocks (ℓ := (c : Thread nD τ).loc cc0_scratch2) (fun i : I => (rR i).set) rR_disjoint rR_cover f]
  exact bigSep_congr fun i _ => (rPts_rect c i fullShare f).symm
omit [FloatOps F] in
theorem own_whole (c : Dev nD) (f : (cc0_scratch1 : Ref sig .tc).ty.Contents (Elt F)) :
    (((c : Thread nD τ).loc cc0_scratch1) ↦{fullShare} f : sProp 𝕄) = bigSep Finset.univ fun j : J => lPts c j f := by
  rw [whole_blocks (ℓ := (c : Thread nD τ).loc cc0_scratch1) (fun j : J => (lR j).set) (fun _ _ h => lR_disjoint h) lR_cover f]
  exact bigSep_congr fun j _ => (lPts_rect c j f).symm
omit [FloatOps F] in
theorem own_chunks (c : Dev nD) (f : (cc0_scratch1 : Ref sig .tc).ty.Contents (Elt F)) :
    (((c : Thread nD τ).loc cc0_scratch1) ↦{fullShare} f : sProp 𝕄) = bigSep Finset.univ fun rp : Fin 2 × Fin 4 => cPts c rp f :=
  whole_blocks (ℓ := (c : Thread nD τ).loc cc0_scratch1) (fun rp : Fin 2 × Fin 4 => (cR rp.1 rp.2).set) cR_disjoint cR_cover f

/-! ## Before the body -/

theorem wb_start (c : Dev nD) (f : (cc0_scratch0 : Ref sig .tc).ty.Contents (Elt F)) :
    (((c : Thread nD τ).loc cc0_scratch0) ↦{fullShare} f : sProp 𝕄) ⊢ wbAt m ρ c 0 := by
  unfold wbAt
  iintro H
  iexists f
  isplitr; · ipureintro; exact fun _ h => absurd h (Nat.not_lt_zero _)
  iexact H
theorem o_start (c : Dev nD) (f : (cc0_stg3_0 : Ref sig .tc).ty.Contents (Elt F)) :
    (((c : Thread nD τ).loc cc0_stg3_0) ↦{fullShare} f : sProp 𝕄) ⊢ oAt m ρ c 0 := by
  unfold oAt
  iintro H
  iexists f
  isplitr; · ipureintro; exact fun _ h => absurd h (Nat.not_lt_zero _)
  iexact H
theorem parts_start (c : Dev nD) (f : (cc0_scratch1 : Ref sig .tc).ty.Contents (Elt F)) :
    (((c : Thread nD τ).loc cc0_scratch1) ↦{fullShare} f : sProp 𝕄) ⊢ Parts m ρ c 0 4 := by
  unfold Parts
  rw [own_chunks, show from_ crank 0 = Finset.univ from by decide +kernel, show halves 0 4 = ∅ from by decide +kernel, bigSep_empty]
  have h : (bigSep Finset.univ fun rp : Fin 2 × Fin 4 => cPts (F := F) c rp f : sProp 𝕄) ⊢ bigSep Finset.univ fun rp => iprop(∃ f, cPts c rp f) :=
    bigSep_mono fun rp _ => show (cPts (F := F) c rp f : sProp 𝕄) ⊢ iprop(∃ f, cPts c rp f) from by iintro H; iexists f; iexact H
  iintro H
  isplitl; · iapply h; iexact H
  iempintro
omit [FloatOps F] in
theorem land_start (c : Dev nD) (f : (cc0_scratch2 : Ref sig .tc).ty.Contents (Elt F)) :
    (((c : Thread nD τ).loc cc0_scratch2) ↦{fullShare} f : sProp 𝕄) ⊢ iprop(barPay (bwd 0 c) 0 ∗ barPay (bwd 1 c) 1) := by
  unfold barPay
  rw [fwd_bwd, fwd_bwd, land_whole, bigSep_rings]
  have h (r : Fin 2) : (bigSep Finset.univ fun ku : Fin 6 × Fin 2 => rPts (F := F) c (r, ku.1, ku.2) fullShare f : sProp 𝕄)
      ⊢ bigSep Finset.univ fun ku : Fin 6 × Fin 2 => iprop(∃ f, rPts c (r, ku.1, ku.2) fullShare f) :=
    bigSep_mono fun ku _ => show (rPts (F := F) c (r, ku.1, ku.2) fullShare f : sProp 𝕄) ⊢ iprop(∃ f, rPts c (r, ku.1, ku.2) fullShare f) from by
      iintro H; iexists f; iexact H
  iintro ⟨H0, H1⟩
  isplitl [H0]
  · iapply (h 0); iexact H0
  · iapply (h 1); iexact H1

/-! ## After the body -/

omit [FloatOps F] in
theorem rPts_join (c : Dev nD) (i : I) (f : (cc0_scratch2 : Ref sig .tc).ty.Contents (Elt F)) :
    (iprop(rPts c i fullShare.left f ∗ rPts c i fullShare.right f) : sProp 𝕄) ⊢ rPts c i fullShare f := by
  unfold rPts
  exact (pointsTo_share (PosShare.mem_left_op_right fullShare)).2

/-- The windows that went out and the windows that came in are the two buffers. -/
theorem windows_end (c : Dev nD) :
    iprop(bigSep Finset.univ (sendPay m ρ c) ∗ bigSep Finset.univ fun i : I => rPts c i (keepQ i) (recvF m ρ c))
      ⊢ iprop((((c : Thread nD τ).loc cc0_scratch1) ↦{fullShare} locF1 m ρ c) ∗ (((c : Thread nD τ).loc cc0_scratch2) ↦{fullShare} recvF m ρ c) : sProp 𝕄) := by
  rw [own_whole, land_whole, bigSep_pos, bigSep_six, bigSep_pos (fun i : I => rPts c i (keepQ i) (recvF m ρ c)), bigSep_six,
    bigSep_pos (fun j : J => lPts c j (locF1 m ρ c)), bigSep_four, bigSep_pos (fun i : I => rPts c i fullShare (recvF m ρ c)), bigSep_six]
  have hj (k : Fin 6) : iprop((bigSep Finset.univ fun ru : Fin 2 × Fin 2 => rPts c (ru.1, k, ru.2) fullShare.left (recvF m ρ c))
        ∗ bigSep Finset.univ fun ru : Fin 2 × Fin 2 => rPts c (ru.1, k, ru.2) fullShare.right (recvF m ρ c))
      ⊢ (bigSep Finset.univ fun ru : Fin 2 × Fin 2 => rPts c (ru.1, k, ru.2) fullShare (recvF m ρ c) : sProp 𝕄) := by
    rw [← bigSep_sep']
    exact bigSep_mono fun ru _ => rPts_join c (ru.1, k, ru.2) _
  iintro ⟨⟨A0, A1, A2, A3, A4, A5⟩, B0, B1, B2, B3, B4, B5⟩
  isplitl [A0 A1 A2 A3]
  · isplitl [A0]; · iexact A0
    isplitl [A1]; · iexact A1
    isplitl [A2]; · iexact A2
    iexact A3
  isplitl [B0]; · iexact B0
  isplitl [B1]; · iexact B1
  isplitl [B2]; · iexact B2
  isplitl [A4 B3]
  · iapply (hj 3)
    isplitl [A4]; · iexact A4
    iexact B3
  isplitl [A5 B4]
  · iapply (hj 4)
    isplitl [A5]; · iexact A5
    iexact B4
  iexact B5

/-- At the end: nothing owed, the transfers' counters at zero, the two buffers whole. -/
theorem comm_end (c : Dev nD) : Comm m ρ c 24 24 24
    ⊢ iprop((∃ W, owes (c : Thread nD τ) 0 W) ∗ (bigSep Finset.univ fun i : I => semVal (sCell c i) 0) ∗ (bigSep Finset.univ fun i : I => semVal (rCell c i) 0)
      ∗ (((c : Thread nD τ).loc cc0_scratch1) ↦{fullShare} locF1 m ρ c) ∗ (((c : Thread nD τ).loc cc0_scratch2) ↦{fullShare} recvF m ρ c)) := by
  unfold Comm
  rw [owed_end, show upto no 24 = (Finset.univ : Finset I) from by decide +kernel, show upto rrank 24 = (Finset.univ : Finset I) from by decide +kernel,
    show (bigSep Finset.univ (Retired m ρ c) : sProp 𝕄) = iprop((bigSep Finset.univ fun i : I => semVal (sCell c i) 0) ∗ bigSep Finset.univ (sendPay m ρ c)) from bigSep_sep' _ _ _,
    show (bigSep Finset.univ (Done m ρ c) : sProp 𝕄) = iprop((bigSep Finset.univ fun i : I => semVal (rCell c i) 0) ∗ bigSep Finset.univ fun i : I => rPts c i (keepQ i) (recvF m ρ c)) from bigSep_sep' _ _ _]
  iintro ⟨%K, -, -, HO, -, -, ⟨HS, HP⟩, -, HR, HD⟩
  isplitl [HO]; · iexact HO
  isplitl [HS]; · iexact HS
  isplitl [HR]; · iexact HR
  iapply (windows_end m ρ c)
  isplitl [HP]; · iexact HP
  iexact HD

/-- Every row of the result lies in a stored block. -/
theorem o_cover (c : Dev nD) (x : S2048x1024.Idx) : ∃ (j : J) (z : S128x1024.Idx), (oR j.1 (oQ c j) j.2.2).emb z = x := by
  have hx : (x 0).val < 2048 := (x 0).isLt
  have hc : c.val < 4 := c.isLt
  have hq : (x 0).val / 256 % 4 < 4 := Nat.mod_lt _ (by decide)
  have hp : ∀ (r : Fin 2) (q c : Dev nD), ∃ p : Fin 4, rot r (3 * (p.val + 3)) c = q := by decide +kernel
  obtain ⟨p, hp⟩ := hp ⟨(x 0).val / 1024, by omega⟩ ⟨(x 0).val / 256 % 4, hq⟩ c
  refine ⟨(⟨(x 0).val / 1024, by omega⟩, p, ⟨(x 0).val / 128 % 2, by omega⟩), loc2 ⟨(x 0).val % 128, by omega⟩ (x 1), ?_⟩
  unfold oQ
  dsimp only
  rw [hp]
  funext a
  fin_cases a
  · refine Fin.ext ((Rect.emb_apply _ _ _).trans ?_)
    show 1024 * ((x 0).val / 1024) + 256 * ((x 0).val / 256 % 4) + 128 * ((x 0).val / 128 % 2) + 1 * ((x 0).val % 128) = (x 0).val
    omega
  · refine Fin.ext ((Rect.emb_apply _ _ _).trans ?_)
    show 0 + 1 * (x 1).val = (x 1).val
    omega

theorem o_end (c : Dev nD) : oAt m ρ c 16 ⊢ (((c : Thread nD τ).loc cc0_stg3_0) ↦{fullShare} outF m ρ c : sProp 𝕄) := by
  unfold oAt
  iintro ⟨%f, %hf, H⟩
  have he : f = outF m ρ c := by
    funext x
    obtain ⟨j, z, rfl⟩ := o_cover c x
    exact hf j (by unfold orank; omega) z
  rw [he]
  iexact H

end Cert.KernelIdeal.Moe

end
-- ==== Proof.Deal.lean ====
/- What the launch deals the devices: every cell its invariant, every token to the device that pays with it, the credit at launch. -/
module

public import proofs.«01_k».proof.Proof.Ends

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem kcell_injective : Function.Injective (kcell : Dev nD × Cells → GSem nD τ sig) := by
  rintro ⟨c, k⟩ ⟨c', k'⟩ h
  obtain rfl : c = c' := congrArg (fun g : GSem nD τ sig => g.1.1) h
  have h2 : csem k = csem k' := congrArg Prod.snd h
  rcases k with _ | ⟨_ | _, i⟩ <;> rcases k' with _ | ⟨_ | _, j⟩
  · rfl
  · cases h2
  · cases h2
  · cases h2
  · rw [sS_inj (SemLoc.dma.inj h2)]
  · exact absurd (SemLoc.dma.inj h2) (sS_ne_rS i j)
  · cases h2
  · exact absurd (SemLoc.dma.inj h2).symm (sS_ne_rS j i)
  · rw [rS_inj (SemLoc.dma.inj h2)]
def ringCells : Finset (GSem nD τ sig) := Finset.univ.map ⟨kcell, kcell_injective⟩

/-- A cell and which of its duties: the barrier's two, of every other cell the one. -/
abbrev Duty := Fin 2 ⊕ (Bool × I)
abbrev tokOf (cj : Dev nD × Duty) : GSem nD τ sig × ℕ × Fin 2 := match cj.2 with
  | .inl d => (barCell cj.1, 0, d)
  | .inr k => (kcell (cj.1, some k), 0, 0)
theorem tokOf_injective : Function.Injective (tokOf : Dev nD × Duty → GSem nD τ sig × ℕ × Fin 2) := by
  rintro ⟨c, j⟩ ⟨c', j'⟩ h
  rcases j with d | k <;> rcases j' with d' | k'
  · have h1 := kcell_injective (a₁ := (c, none)) (a₂ := (c', none)) (congrArg Prod.fst h)
    have h2 : d = d' := congrArg (fun x : GSem nD τ sig × ℕ × Fin 2 => x.2.2) h
    have h3 : c = c' := congrArg Prod.fst h1
    rw [h3, h2]
  · exact absurd (congrArg Prod.snd (kcell_injective (a₁ := (c, none)) (a₂ := (c', some k')) (congrArg Prod.fst h))) (fun h => by cases h)
  · exact absurd (congrArg Prod.snd (kcell_injective (a₁ := (c, some k)) (a₂ := (c', none)) (congrArg Prod.fst h))) (fun h => by cases h)
  · have h1 := kcell_injective (a₁ := (c, some k)) (a₂ := (c', some k')) (congrArg Prod.fst h)
    have h2 : c = c' := congrArg Prod.fst h1
    have h3 : k = k' := Option.some.inj (congrArg Prod.snd h1)
    rw [h2, h3]
def ringToks : Finset (GSem nD τ sig × ℕ × Fin 2) := Finset.univ.map ⟨tokOf, tokOf_injective⟩

def u₀ : UU :=
  (initOf (Pipeline.cells cfgs cellOf_inj) (Pipeline.launchToks cfgs cellOf_inj), initOf ringCells ringToks)

omit [FloatOps F] in
theorem bigSep_xfer (Φ : Bool × I → sProp 𝕄) : bigSep Finset.univ Φ
    = iprop((bigSep Finset.univ fun i : I => Φ (false, i)) ∗ bigSep Finset.univ fun i : I => Φ (true, i)) := by
  rw [bigSep_univ_prod]
  exact bigSep_univ_eq_bigSepL [false, true] (by decide) (by decide) _
omit [FloatOps F] in
theorem bigSep_cells (Φ : Cells → sProp 𝕄) : bigSep Finset.univ Φ = iprop((bigSep Finset.univ fun k : Bool × I => Φ (some k)) ∗ Φ none) := by
  rw [bigSep_univ_equiv (Equiv.optionEquivSumPUnit.{0, 0} (Bool × I)).symm Φ, bigSep_univ_sum, bigSep_univ_of_subsingleton PUnit.unit.{1}]
  rfl

/-- The tokens of device `c`'s own cells. -/
def toks (c : Dev nD) : sProp 𝕄 :=
  iprop((dutyTok ER (barCell c) 0 0 ∗ dutyTok ER (barCell c) 0 1)
    ∗ (bigSep Finset.univ fun i : I => dutyTok ER (sCell c i) 0 0) ∗ bigSep Finset.univ fun i : I => dutyTok ER (rCell c i) 0 0)
/-- The tokens of the duties device `c` pays. -/
def payToks (c : Dev nD) : sProp 𝕄 :=
  iprop((dutyTok ER (barCell (bwd 0 c)) 0 0 ∗ dutyTok ER (barCell (bwd 1 c)) 0 1)
    ∗ (bigSep Finset.univ fun i : I => dutyTok ER (sCell c i) 0 0) ∗ bigSep Finset.univ fun i : I => dutyTok ER (rCell (fwd i.1 c) i) 0 0)

/-- What the launch deals device `c`. -/
def G (c : Dev nD) : sProp 𝕄 :=
  iprop((bigSep Finset.univ fun k : Cells => roundState ER (Rd m ρ) (kcell (c, k)) 0)
    ∗ (bigSep Finset.univ fun k : Cells => iprop(atPos ER (kcell (c, k)) 0 ∅ 0 ∗ reached ER (kcell (c, k)) 0)) ∗ toks c)

def linear (c : Dev nD) : sProp 𝕄 := iprop((bigSep Finset.univ fun k : Cells => atPos ER (kcell (c, k)) 0 ∅ 0) ∗ payToks c)
/-- What is made of it for all devices at once. -/
def G' (c : Dev nD) : sProp 𝕄 := iprop(∃ K, records m ρ K ∗ linear c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Cells => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, BI.bigSep_fin_two, bigSep_xfer]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: of every transfer its two. -/
abbrev osem (k : Bool × I) : SemLoc sig := csem (some k)

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Bool × I => semVal (kcell (c, some k)) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Cells => iprop(∃ κ : ℕ, cellInv ER (Rd m ρ) κ (kcell (c, k))))
          ∗ (bigSep Finset.univ fun k : Cells => iprop(atPos ER (kcell (c, k)) 0 ∅ 0 ∗ reached ER (kcell (c, k)) 0)) ∗ toks c) := by
  unfold G
  rw [ownSems0_eq, unscopedSems0_eq]
  iintro ⟨Hos, Hus, Hst, Hat, Htok⟩
  ihave Hv := (Entails.of_eq (bigSep_cells (F := F) fun k : Cells => semVal (kcell (c, k)) 0).symm) $$ [Hos Hus]
  · isplitl [Hos] <;> iassumption
  imod (show iprop((bigSep Finset.univ fun k : Cells => semVal (kcell (c, k)) 0) ∗ bigSep Finset.univ fun k : Cells => roundState ER (Rd m ρ) (kcell (c, k)) 0)
      ⊢ (|={Set.univ}=> bigSep Finset.univ fun k : Cells => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a transfer, moved on along the transfer's ring. -/
def along : Dev nD × I ≃ Dev nD × I :=
  ⟨fun x => (fwd x.2.1 x.1, x.2), fun x => (bwd x.2.1 x.1, x.2), fun x => by dsimp only; rw [bwd_fwd], fun x => by dsimp only; rw [fwd_bwd]⟩

omit [FloatOps F] in
/-- The tokens go to the devices that pay with them. -/
theorem toks_around : (bigSep Finset.univ fun c : Dev nD => (toks c : sProp 𝕄)) ⊢ bigSep Finset.univ fun c : Dev nD => payToks c := by
  have hr : (bigSep Finset.univ fun c : Dev nD => bigSep Finset.univ fun i : I => (dutyTok ER (rCell c i) 0 0 : sProp 𝕄))
      = bigSep Finset.univ fun c : Dev nD => bigSep Finset.univ fun i : I => dutyTok ER (rCell (fwd i.1 c) i) 0 0 := by
    rw [← bigSep_univ_prod (fun x : Dev nD × I => (dutyTok ER (rCell x.1 x.2) 0 0 : sProp 𝕄)), bigSep_univ_equiv along, bigSep_univ_prod]
    rfl
  unfold toks payToks
  rw [bigSep_sep', bigSep_sep', bigSep_sep', bigSep_sep', bigSep_sep', bigSep_sep',
    bigSep_univ_equiv (ring 0).symm (fun c : Dev nD => (dutyTok ER (barCell c) 0 0 : sProp 𝕄)),
    bigSep_univ_equiv (ring 1).symm (fun c : Dev nD => (dutyTok ER (barCell c) 0 1 : sProp 𝕄)), hr]
  iintro ⟨⟨H1, H2⟩, H3, H4⟩
  isplitl [H1 H2]
  · isplitl [H1]; · iexact H1
    iexact H2
  isplitl [H3]; · iexact H3
  iexact H4

omit [FloatOps F] in
theorem with_persistent {α : Type} [DecidableEq α] {S : Finset α} {R : sProp 𝕄} [BI.Persistent R] {Φ Ψ : α → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem g_intro (K : Dev nD × Cells → ℕ) (c : Dev nD) : iprop(records m ρ K ∗ linear c) ⊢ G' m ρ c := by
  unfold G'
  iintro H; iexists K; iexact H

theorem regroup :
    (bigSep Finset.univ fun c : Dev nD => iprop((bigSep Finset.univ fun k : Cells => iprop(∃ κ : ℕ, cellInv ER (Rd m ρ) κ (kcell (c, k))))
          ∗ (bigSep Finset.univ fun k : Cells => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cells => iprop(∃ κ : ℕ, cellInv ER (Rd m ρ) κ (kcell ck))),
    bigSep_congr (s := Finset.univ) (fun (c : Dev nD) _ => bigSep_sep' Finset.univ (fun k : Cells => (atPos ER (kcell (c, k)) 0 ∅ 0 : sProp 𝕄)) (fun k => reached ER (kcell (c, k)) 0)),
    bigSep_sep', ← bigSep_univ_prod (fun ck : Dev nD × Cells => (reached ER (kcell ck) 0 : sProp 𝕄))]
  iintro ⟨HI, ⟨Hat, #HR⟩, Htok⟩
  ihave HK := (BI.bigSep_exists_pi Finset.univ (fun (ck : Dev nD × Cells) (κ : ℕ) => (cellInv ER (Rd m ρ) κ (kcell ck) : sProp 𝕄))) $$ HI
  icases HK with ⟨%K, #HI⟩
  ihave Htk := (toks_around (F := F)) $$ Htok
  iapply (with_persistent (R := records m ρ K) fun c _ => g_intro m ρ K c)
  isplitr
  · unfold records; isplitl; · iexact HI
    iexact HR
  · iapply (Entails.of_eq (bigSep_sep' Finset.univ (fun c : Dev nD => bigSep Finset.univ fun k : Cells => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

omit [FloatOps F] in
theorem owed_bar (d c : Dev nD) : O₀ d (barCell c) () = (if d = fwd 1 c then 1 else 0) + (if d = fwd 0 c then 1 else 0) := by
  have h0 : owed d 0 (barCell c) () = 0 := by
    by_contra h
    obtain ⟨i, -, hi⟩ := owed_pos (c := d) (s := 0) (g := barCell c) (u := ()) (Nat.pos_of_ne_zero h)
    have := congrArg Prod.snd hi
    cases this
  have h1 (r : Fin 2) : (tallyAt (barCell (bwd r d)) () 1 : CellTallies nD τ sig Unit) (barCell c) () = if d = fwd r c then 1 else 0 := by
    rw [tallyAt_apply]
    by_cases h : d = fwd r c
    · subst h; rw [bwd_fwd, if_pos ⟨rfl, rfl⟩, if_pos rfl]
    · rw [if_neg (fun ⟨h1, _⟩ => h (by rw [show c = bwd r d from congrArg (fun g : GSem nD τ sig => g.1.1) h1, fwd_bwd])), if_neg h]
  unfold O₀ O₁
  rw [Pi.add_apply, Finsupp.add_apply, Pi.add_apply, Finsupp.add_apply, h0, h1, h1, Nat.zero_add]

omit [FloatOps F] in
theorem owed_recv (d c : Dev nD) (i : I) : O₀ d (rCell c i) () = if d = bwd i.1 c then N else 0 := by
  have h0 : owed d 0 (rCell c i) () = if d = bwd i.1 c then N else 0 := by
    unfold owed
    rw [Finset.sum_apply, Finsupp.finset_sum_apply, show from_ srank 0 = Finset.univ from by decide +kernel,
      Finset.sum_eq_single_of_mem i (Finset.mem_univ _) (fun j _ hj => by
        rw [tallyAt_apply, if_neg (fun h => hj (rS_inj (SemLoc.dma.inj (congrArg Prod.snd h.1))).symm)]), tallyAt_apply]
    by_cases h : d = bwd i.1 c
    · subst h; rw [fwd_bwd, if_pos ⟨rfl, rfl⟩, if_pos rfl]
    · rw [if_neg (fun ⟨h1, _⟩ => h (by rw [show c = fwd i.1 d from congrArg (fun g : GSem nD τ sig => g.1.1) h1, bwd_fwd])), if_neg h]
  unfold O₀ O₁
  rw [Pi.add_apply, Finsupp.add_apply, Pi.add_apply, Finsupp.add_apply, h0,
    tallyAt_ne_cell (fun h => by have := congrArg Prod.snd h; cases this), tallyAt_ne_cell (fun h => by have := congrArg Prod.snd h; cases this),
    Finsupp.zero_apply, Nat.add_zero, Nat.add_zero]

omit [FloatOps F] in
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (fwd 1 c) fun _ => 1, Finset.sum_ite_eq' Finset.univ (fwd 0 c) fun _ => 1, if_pos (Finset.mem_univ _), if_pos (Finset.mem_univ _)]

omit [FloatOps F] in
theorem launch_recv (c : Dev nD) (i : I) :
    tallyOn (rCell c i) (launchCredit (Pipeline.owing O₀) 0 (rCell c i)) = (tallyAt (rCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (bwd i.1 c) fun _ => N,
    if_pos (Finset.mem_univ _)]

def rSems : Finset (SemLoc sig) := Finset.univ.map ⟨fun i : I => SemLoc.dma (rS i), fun _ _ h => rS_inj (SemLoc.dma.inj h)⟩

omit [FloatOps F] in
theorem creds (c : Dev nD) :
    (Pipeline.launchCred O₀ c : sProp 𝕄) ⊢ iprop(cred (tallyAt (barCell c) () 2) ∗ bigSep Finset.univ fun i : I => cred (tallyAt (rCell c i) () N)) := by
  unfold Pipeline.launchCred
  rw [bigSep_univ_at _ (SemLoc.reg barS), launch_bar]
  refine sep_mono_right ((bigSep_subset (t := rSems) fun s hs => ?_).trans ?_)
  · obtain ⟨i, -, rfl⟩ := Finset.mem_map.mp hs
    exact Finset.mem_erase.mpr ⟨(fun h => by cases h), Finset.mem_univ _⟩
  · unfold rSems
    rw [bigSep_map]
    exact bigSep_mono fun i _ => Entails.of_eq (congrArg cred (launch_recv c i))

end Cert.KernelIdeal.Moe

end
-- ==== Proof.Region.lean ====
/- The kernel on the four devices: its body between what each holds before and after, the launch and the run. -/
module

public import Idealize.ShloMosaic.Lib.Pipeline.Launch
public import Idealize.ShloMosaic.Lib.Pipeline.CollectiveSegs
public import Idealize.ShloMosaic.Lib.Quiescent
public import proofs.«01_k».proof.Proof.Deal
public import proofs.«01_k».proof.Proof.Gen.KernelIdeal.Points

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel's region holds -/

def start (c : Dev nD) : sProp 𝕄 :=
  iprop(G' m ρ c ∗ cred (tallyAt (barCell c) () 2) ∗ (bigSep Finset.univ fun i : I => cred (tallyAt (rCell c i) () N)) ∗ levAts L lv)
def bufs (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f)
    ∗ ∃ f : (cc0_scratch2 : Ref sig .tc).ty.Contents (Elt F), ((c : Thread nD τ).loc cc0_scratch2) ↦{fullShare} f)
def Φ₀ (c : Dev nD) : sProp 𝕄 := iprop(start m ρ c ∗ bufs c)
def Φ₁ (c : Dev nD) : sProp 𝕄 :=
  iprop(semVal (barCell c) 0 ∗ ((bigSep Finset.univ fun i : I => semVal (sCell c i) 0) ∗ bigSep Finset.univ fun i : I => semVal (rCell c i) 0) ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xc m ρ c
    | ⟨1, _⟩ => Ic m ρ c
    | ⟨2, _⟩ => Wc m ρ c
    | ⟨3, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ
    ∗ stg c cc0_stg0_0 (Xc m ρ c) ∗ stg c cc0_stg1_0 (Ic m ρ c) ∗ stg c cc0_stg2_0 (Wc m ρ c) ∗ stg c cc0_stg3_0 (outF m ρ c))

theorem start_held (c : Dev nD) (f : (cc0_scratch2 : Ref sig .tc).ty.Contents (Elt F)) :
    iprop(start m ρ c ∗ (∃ W, owes (c : Thread nD τ) (O₀ c) W) ∗ (((c : Thread nD τ).loc cc0_scratch2) ↦{fullShare} f)) ⊢ Bar0 m ρ c := by
  unfold start G' linear payToks Bar0 Held
  rw [bigSep_cells, bigSep_xfer,
    show (bigSep Finset.univ (SendTok (F := F) c) : sProp 𝕄) = iprop((bigSep Finset.univ fun i : I => dutyTok ER (sCell c i) 0 0)
      ∗ bigSep Finset.univ fun i : I => iprop(dutyTok ER (rCell (fwd i.1 c) i) 0 0 ∗ atPos ER (sCell c i) 0 ∅ 0)) from bigSep_sep' _ _ _,
    bigSep_sep',
    show (bigSep Finset.univ (RecvReady (F := F) c) : sProp 𝕄) = iprop((bigSep Finset.univ fun i : I => cred (tallyAt (rCell c i) () N))
      ∗ bigSep Finset.univ fun i : I => atPos ER (rCell c i) 0 ∅ 0) from bigSep_sep' _ _ _]
  iintro ⟨⟨⟨%K, Hrec, ⟨⟨HaS, HaR⟩, HaB⟩, ⟨Ht0, Ht1⟩, HtS, HtR⟩, HcB, HcR, Hlev⟩, HO, Hland⟩
  ihave Hp := (land_start c f) $$ Hland
  icases Hp with ⟨Hp0, Hp1⟩
  iexists K
  isplitl [Hrec]; · iexact Hrec
  isplitl [Hlev]; · iexact Hlev
  isplitl [HO]; · iexact HO
  isplitl [Ht0]; · iexact Ht0
  isplitl [Ht1]; · iexact Ht1
  isplitl [Hp0]; · iexact Hp0
  isplitl [Hp1]; · iexact Hp1
  isplitl [HcB]; · iexact HcB
  isplitl [HaB]; · iexact HaB
  isplitl [HtS HtR HaS]
  · isplitl [HtS]; · iexact HtS
    isplitl [HtR]; · iexact HtR
    iexact HaS
  isplitl [HcR]; · iexact HcR
  iexact HaR

theorem before_0 (c : Dev nD) (d) : (dats m ρ 0 c).before (0 : Fin 4) t₀ d = Xc m ρ c := by unfold Dat.before; rw [if_pos (fetch0_0 t₀)]; rfl
theorem before_1 (c : Dev nD) (d) : (dats m ρ 0 c).before (1 : Fin 4) t₀ d = Ic m ρ c := by unfold Dat.before; rw [if_pos (fetch0_1 t₀)]; rfl
theorem before_2 (c : Dev nD) (d) : (dats m ρ 0 c).before (2 : Fin 4) t₀ d = Wc m ρ c := by unfold Dat.before; rw [if_pos (fetch0_2 t₀)]; rfl

theorem pre_intro (c : Dev nD) : bodyPre m ρ c ⊢ Pre m ρ c := by
  unfold bodyPre Pre Φ₀ bufs Dat.owesAt Pipeline.owesWithin
  rw [show (dats m ρ 0 c).owed t₀.castSucc = O₀ c from rfl]
  iintro ⟨⟨Hs, ⟨%f0, Hb⟩, ⟨%f1, Hl⟩, ⟨%f2, Hr⟩⟩, ⟨%W, %hW, HO⟩, ⟨%d0, %g0, %h0, Hx⟩, ⟨%d1, %g1, %h1, Hi⟩, ⟨%d2, %g2, %h2, Hw⟩, ⟨%d3, %g3, %h3, Ho⟩⟩
  rw [before_0] at h0
  rw [before_1] at h1
  rw [before_2] at h2
  subst h0 h1 h2
  unfold xPts iPts wPts
  isplitl [Hs HO Hr]
  · iapply (start_held m ρ c f2)
    isplitl [Hs]; · iexact Hs
    isplitl [HO]; · iexists W; iexact HO
    iexact Hr
  isplitl [Hx]; · iexact Hx
  isplitl [Hi]; · iexact Hi
  isplitl [Hw]; · iexact Hw
  isplitl [Hb]; · iapply (wb_start m ρ c f0); iexact Hb
  isplitl [Hl]; · iapply (parts_start m ρ c f1); iexact Hl
  iapply (o_start m ρ c g3); iexact Ho

theorem post_elim (c : Dev nD) : Post m ρ c ⊢ bodyPost m ρ c := by
  unfold bodyPost Post Φ₁ bufs wbAt Dat.owesAt Pipeline.owesWithin
  rw [show (dats m ρ 0 c).owed t₀.succ = 0 from rfl]
  iintro ⟨Hc, Hz, Hx, Hi, Hw, ⟨%f0, -, Hb⟩, -, Ho⟩
  ihave H := (comm_end m ρ c) $$ Hc
  icases H with ⟨⟨%W, HO⟩, HS, HR, Hl, Hr⟩
  ihave Ho' := (o_end m ρ c) $$ Ho
  unfold xPts iPts wPts
  isplitl [Hz HS HR Hb Hl Hr]
  · isplitl [Hz]; · iexact Hz
    isplitl [HS HR]
    · isplitl [HS]; · iexact HS
      iexact HR
    isplitl [Hb]; · iexists _; iexact Hb
    isplitl [Hl]; · iexists _; iexact Hl
    iexists _; iexact Hr
  isplitl [HO]
  · iexists W
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  isplitl [Hw]
  · iexists _; isplitr; · (ipureintro; rfl)
    iexact Hw
  iexists _; isplitr; · (ipureintro; rfl)
  iexact Ho'

theorem body_sound (c : Dev nD) : bodyPre m ρ c ⊢ WP c (cc0_body xM (Memref.isWhole_whole _) iM (Memref.isWhole_whole _) wM (Memref.isWhole_whole _) oM (Memref.isWhole_whole _)
      bM (Memref.isWhole_whole _) lM (Memref.isWhole_whole _) rM (Memref.isWhole_whole _) cc0_scratch3 cc0_scratch4) (fun _ => bodyPost m ρ c) := by
  have h := sound_body m ρ c fun _ => bodyPost m ρ c
  refine BIBase.Entails.trans ?_ h
  iintro H
  isplitl
  · iapply (pre_intro m ρ c); iexact H
  · iintro H; iapply (post_elim m ρ c); iexact H

set_option maxRecDepth 65536 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_sound m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

/-- The argument no window reads, held through the region. -/
def rest (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ rest m c) := by
  rw [Pipeline.unscopedRestP_none, unscopedRest0_eq]
  iintro ⟨Hr, Hlev, Hcr, -, HG⟩
  ihave Hc := (creds (F := F) c) $$ Hcr
  icases Hc with ⟨H1, HN⟩
  imodintro
  unfold start rest
  isplitr [Hr]
  · isplitl [HG]; · iexact HG
    isplitl [H1]; · iexact H1
    isplitl [HN]; · iexact HN
    iexact Hlev
  · iexact Hr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq, bigSep_xfer]
  unfold Φ₁ bufs
  iintro ⟨Hz, Hs, Hr⟩
  isplitl [Hz]; · iexact Hz
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem rest_read (c : Dev nD) (s' : Phys nD τ sig (Elt F)) :
    iprop(unscopedSems0 c ∗ rest m c ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold rest
  iintro ⟨Hu, Hr, HSI⟩
  ihave H := (pointsTo_read_all (Finset.univ : Finset Unit) (fun _ => (c : Thread nD τ).loc main_arg1) (fun _ => m ((c : Thread nD τ).loc main_arg1)) s') $$ [Hr HSI]
  · isplitl [Hr]
    · rw [bigSep_univ_of_subsingleton ()]; iexact Hr
    · iexact HSI
  icases H with ⟨%h1, HSI⟩
  imod (Pipeline.unscopedSems0_read (X := unscopedSems0 c) (c := c) fupd_intro s') $$ [Hu HSI] with ⟨%h, HSI⟩
  · isplitl [Hu] <;> iassumption
  imodintro
  isplitr; · ipureintro; exact ⟨h, h1 () (Finset.mem_univ _)⟩
  iexact HSI

set_option maxRecDepth 8000 in
/-- From any memory with zero counters the four devices run to the end: each device's result array holds `outF`, its arguments
    are unchanged, and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := rest m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := rest_read m)
    (hQ := fun _ h hs => ⟨fun c => ⟨fun w => (h c).1 w, (h c).2.2.2⟩, sem_eq_zero hs fun c => (h c).2.2.1⟩)

theorem finalA_0 (c : Dev nD) : finalA m ρ c (0 : Fin 4) = m ((c : Thread nD τ).loc main_arg0) := (dats (F := F) m ρ 0 c).arrAt_in (0 : Fin 4) rfl _
theorem finalA_1 (c : Dev nD) : finalA m ρ c (1 : Fin 4) = m ((c : Thread nD τ).loc main_arg2) := (dats (F := F) m ρ 0 c).arrAt_in (1 : Fin 4) rfl _
theorem finalA_2 (c : Dev nD) : finalA m ρ c (2 : Fin 4) = m ((c : Thread nD τ).loc main_arg3) := (dats (F := F) m ρ 0 c).arrAt_in (2 : Fin 4) rfl _

/-- The arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (finalA_0 m ρ c), (h.1 c).2, ((h.1 c).1 1).trans (finalA_1 m ρ c),
    ((h.1 c).1 2).trans (finalA_2 m ρ c)⟩, h.2⟩) (run_main m ρ)

end Cert.KernelIdeal.Moe

end
-- ==== Proof.RefValue.lean ====
/- The reference at an index, over the extended reals: the sum over the sixteen experts of the masked row's product. -/
module

public import proofs.«01_k».proof.Proof.Gen.ReferenceIdeal
public import Idealize.ShloMosaic.Lib.ReduceAll
public import Idealize.ShloMosaic.Lib.Pointwise

@[expose] public section

noncomputable section

namespace Cert.ReferenceIdeal.Moe

open Cert.ReferenceIdeal Cert.ReferenceIdeal.Gen
open Idealize.ShloMosaic

/-- Row `t` times expert `k`'s matrix, at column `o`, the row taken as zero when its expert is another. -/
def part (x : S2048x512.Idx → EReal) (e : S2048x1.Idx → BitVec 32) (w : S16x512x1024.Idx → EReal) (k : Fin 16) (t : Fin 2048) (o : Fin 1024) : EReal :=
  ∑ d : Fin 512, (if e (ix2 t 0) = BitVec.ofNat 32 k.val then x (ix2 t d) else 0) * w (ix3 k d o)

/-- Every part of a row but its own expert's is zero. -/
theorem part_ne (x e w) (k : Fin 16) (t : Fin 2048) (o : Fin 1024) (h : e (ix2 t 0) ≠ BitVec.ofNat 32 k.val) : part x e w k t o = 0 :=
  Finset.sum_eq_zero fun d _ => by rw [if_neg h, zero_mul]
theorem part_eq (x e w) (k : Fin 16) (t : Fin 2048) (o : Fin 1024) (h : e (ix2 t 0) = BitVec.ofNat 32 k.val) :
    part x e w k t o = ∑ d : Fin 512, x (ix2 t d) * w (ix3 k d o) :=
  Finset.sum_congr rfl fun d _ => by rw [if_pos h]

/-- The bits of an expert number in range, read signed. -/
theorem word_range (b : BitVec 32) : (0 ≤ b.toInt ∧ b.toInt ≤ 15) → ∃ k : Fin 16, b = BitVec.ofNat 32 k.val ∧ b.toInt.toNat = k.val := by
  rintro ⟨h0, h1⟩
  refine ⟨⟨b.toInt.toNat, by omega⟩, ?_, rfl⟩
  apply BitVec.eq_of_toNat_eq
  rw [BitVec.toNat_ofNat]
  dsimp only
  have := BitVec.toInt_eq_toNat_cond b
  split at this <;> omega
theorem word_out (b : BitVec 32) (k : Fin 16) (h : b = BitVec.ofNat 32 k.val) : 0 ≤ b.toInt ∧ b.toInt ≤ 15 := by
  subst h; revert k; decide

/-- All sixteen parts of a row: its expert's product, or zero when the number names no expert. -/
theorem sum_parts (x e w) (t : Fin 2048) (o : Fin 1024) (k : Fin 16) (h : e (ix2 t 0) = BitVec.ofNat 32 k.val) :
    ∑ k, part x e w k t o = ∑ d : Fin 512, x (ix2 t d) * w (ix3 k d o) := by
  rw [← part_eq x e w k t o h]
  refine Finset.sum_eq_single k (fun k' _ hk => part_ne x e w k' t o fun h' => hk (Fin.ext ?_)) fun hk => absurd (Finset.mem_univ _) hk
  have := congrArg BitVec.toNat (h.symm.trans h')
  rw [BitVec.toNat_ofNat, BitVec.toNat_ofNat] at this
  omega
theorem sum_parts_out (x e w) (t : Fin 2048) (o : Fin 1024) (h : ∀ k : Fin 16, e (ix2 t 0) ≠ BitVec.ofNat 32 k.val) :
    ∑ k, part x e w k t o = 0 := Finset.sum_eq_zero fun k _ => part_ne x e w k t o (h k)

/-! ## The reference's operations at an index -/

/-- The expert numbers as the reference reads them are the argument's. -/
theorem idx_apply (e : S2048x1.Idx → BitVec 32) (t : Fin 2048) :
    broadcastInDim S2048x1 ![0] bcast_S2048_S2048x1_0 (shapeCast S2048 e shapeCasts_S2048x1_S2048) (ix2 t 0) = e (ix2 t 0) := by
  pointwise
  try rfl

theorem gather_apply (w : S16x512x1024.Idx → EReal) (e : S2048x1.Idx → BitVec 32) (t : Fin 2048) (d : Fin 512) (o : Fin 1024) (k : Fin 16)
    (h : (e (ix2 t 0)).toInt.toNat = k.val) :
    Host.gather gather_S16x512x1024_S2048x1_S2048x512x1024_12_0_n_n_0_1_15121024 w e (ix3 t d o) = w (ix3 k d o) := by
  unfold Host.gather
  refine congrArg w (funext fun a => Fin.ext ?_)
  have hsi : gather_S16x512x1024_S2048x1_S2048x512x1024_12_0_n_n_0_1_15121024.siIdx (ix3 t d o) ⟨0, by decide⟩ = ix2 t 0 := by
    funext b; refine Fin.ext ?_
    match b with
    | ⟨0, _⟩ => rfl
    | ⟨1, _⟩ => rfl
  match a with
  | ⟨0, _⟩ =>
    show min (e (gather_S16x512x1024_S2048x1_S2048x512x1024_12_0_n_n_0_1_15121024.siIdx (ix3 t d o) ⟨0, by decide⟩)).toInt.toNat 15 + 0 + 0 = k.val
    rw [hsi, h]; omega
  | ⟨1, _⟩ => show 0 + 0 + d.val = d.val; omega
  | ⟨2, _⟩ => show 0 + 0 + o.val = o.val; omega

theorem dot_apply (l : FVec Ideal S2048x512 .f32) (r : FVec Ideal S2048x512x1024 .f32) (t : Fin 2048) (o : Fin 1024) :
    Host.dotGeneral (F := Ideal) dot_S2048x512_S2048x512x1024_S2048x1024_1_1_n_2_0_0 none l r (ix2 t o) = ∑ d : Fin 512, l (ix2 t d) * r (ix3 t d o) := by
  pointwise
  try rfl

/-- Whether a row's number names an expert, as the reference computes it. -/
def known (e : S2048x1.Idx → BitVec 32) : IVec S2048 1 :=
  Host.reduce IntOp.andi (andi (cmpi .sge e (broadcastInDim S2048x1 ![] bcast_S_S2048x1 (constantI S_ 32 0#32)))
    (cmpi .sle e (broadcastInDim S2048x1 ![0, 1] bcast_S1x1_S2048x1_0_1 (broadcastInDim S1x1 ![1] bcast_S1_S1x1_1 (constantI S1 32 15#32)))))
    (constantI S_ 1 1#1) reducesTo_S2048x1_S2048_d1 h_S_

theorem known_apply (e : S2048x1.Idx → BitVec 32) (t : Fin 2048) : known e (ix1 t) = 1#1 ↔ 0 ≤ (e (ix2 t 0)).toInt ∧ (e (ix2 t 0)).toInt ≤ 15 := by
  unfold known
  pointwise
  rw [show (Finset.univ : Finset (Fin 1)) = {0} from rfl, Finset.fold_singleton, IntOp.andi_eq_one, IntOp.andi_eq_one, IntOp.cmpi_sge, IntOp.cmpi_sle]
  exact ⟨fun h => h.1, fun h => ⟨h, rfl⟩⟩

theorem idx_eq (e : S2048x1.Idx → BitVec 32) :
    broadcastInDim S2048x1 ![0] bcast_S2048_S2048x1_0 (shapeCast S2048 e shapeCasts_S2048x1_S2048) = e := by
  funext i
  have h1 : (i 1).val < 1 := (i 1).isLt
  have h0 : i 1 = (0 : Fin 1) := Fin.ext (by show (i 1).val = 0; omega)
  have h : i = ix2 (i 0) (0 : Fin 1) := by rw [← h0]; exact eq_ix2 i
  rw [h]
  exact idx_apply e (i 0)

/-- The matrices the reference picks, zero where a row's number names no expert. -/
def picked (e : S2048x1.Idx → BitVec 32) (w : FVec Ideal S16x512x1024 .f32) : FVec Ideal S2048x512x1024 .f32 :=
  select (broadcastInDim S2048x512x1024 ![0] bcast_S2048_S2048x512x1024_0 (known e))
    (Host.gather gather_S16x512x1024_S2048x1_S2048x512x1024_12_0_n_n_0_1_15121024 w e)
    (broadcastInDim S2048x512x1024 ![] bcast_S_S2048x512x1024 (constant S_ .f32 0x00000000#32))

theorem picked_apply (e w) (t : Fin 2048) (d : Fin 512) (o : Fin 1024) : picked e w (ix3 t d o)
    = if known e (ix1 t) = 1#1 then Host.gather gather_S16x512x1024_S2048x1_S2048x512x1024_12_0_n_n_0_1_15121024 w e (ix3 t d o) else 0 := by
  unfold picked
  generalize known e = g
  generalize Host.gather gather_S16x512x1024_S2048x1_S2048x512x1024_12_0_n_n_0_1_15121024 w e = v
  pointwise
  rfl

theorem reference_apply (x : FVec Ideal S2048x512 .f32) (e : S2048x1.Idx → BitVec 32) (w : FVec Ideal S16x512x1024 .f32) (t : Fin 2048) (o : Fin 1024) :
    Host.dotGeneral (F := Ideal) dot_S2048x512_S2048x512x1024_S2048x1024_1_1_n_2_0_0 none x (picked e w) (ix2 t o) = ∑ k, part x e w k t o := by
  rw [dot_apply]
  simp only [picked_apply]
  by_cases h : known e (ix1 t) = 1#1
  · obtain ⟨k, hk, hn⟩ := word_range _ ((known_apply e t).1 h)
    rw [sum_parts x e w t o k hk]
    exact Finset.sum_congr rfl fun d _ => by rw [if_pos h, gather_apply w e t d o k hn]
  · rw [sum_parts_out x e w t o fun k hk => h ((known_apply e t).2 (word_out _ k hk))]
    exact Finset.sum_eq_zero fun d _ => by rw [if_neg h, mul_zero]

end Cert.ReferenceIdeal.Moe

end
-- ==== Proof.Value.lean ====
/- The value the kernel computes, over the extended reals: at each place the sum over all experts. -/
module

public import Idealize.ShloMosaic.Lib.Pointwise
public import Idealize.ShloMosaic.Lib.WordCmp
public import Idealize.ShloMosaic.Lib.Layout
public import proofs.«01_k».proof.Proof.Region
public import proofs.«01_k».proof.Proof.RefValue

@[expose] public section

noncomputable section

namespace Cert.KernelIdeal.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Cert.ReferenceIdeal.Moe (part)
open Cert.ReferenceIdeal (S16x512x1024)

/-! ## The kernel's vector operations at an index, over the extended reals -/

theorem pay1_apply (w : FVec Ideal S1x512x1024 .bf16) (d : Fin 512) (o : Fin 1024) : k0_pay1 (F := Ideal) w (ix3 0 d o) = w (ix3 0 d o) := by
  unfold k0_pay1
  pointwise

theorem masked (a b : BitVec 32) (x w : EReal) : Scalar.select (IntOp.cmpi .eq a b) (x * w) 0 = (if a = b then x else 0) * w := by
  rw [WordCmp.cmpi_eq_eq, WordCmp.select_ofBool]
  by_cases h : a = b
  · simp [h]
  · simp [h]

/-- Row `a` times one matrix at column `o`, the row taken as zero when its expert is not the one numbered `k`. -/
def one (k : BitVec 32) (x : FVec Ideal S256x512 .bf16) (e : IVec S256x1 32) (w : FVec Ideal S1x512x1024 .bf16) (a : Fin 256) (o : Fin 1024) : EReal :=
  ∑ d : Fin 512, (if e (ix2 a 0) = k then x (ix2 a d) else 0) * w (ix3 0 d o)

/-- The number of matrix `j` of a device whose own number is `v`. -/
abbrev num (v : BitVec 32) (j : BitVec 32) : BitVec 32 := Scalar.addi (Scalar.muli v 4#32) j

theorem chunkV_apply (v : BitVec 32) (x : FVec Ideal S256x512 .bf16) (e : IVec S256x1 32) (w0 w1 w2 w3 : FVec Ideal S1x512x1024 .bf16) (a : Fin 256) (o : Fin 1024) : chunkV (F := Ideal) v x e w0 w1 w2 w3 (ix4 0 0 a o)
    = one (num v 0#32) x e w0 a o + one (num v 1#32) x e w1 a o + one (num v 2#32) x e w2 a o + one (num v 3#32) x e w3 a o := by
  unfold chunkV k0_pay10 k0_pay8 k0_pay9 k0_pay6 k0_pay7 one
  pointwise
  simp only [masked]

theorem addV_apply (x y : FVec Ideal S1x1x128x1024 .bf16) (a : Fin 128) (o : Fin 1024) : k0_pay32 (F := Ideal) x y (ix4 0 0 a o) = x (ix4 0 0 a o) + y (ix4 0 0 a o) := by
  unfold k0_pay32
  pointwise
theorem finV_apply (x y : FVec Ideal S1x1x128x1024 .bf16) (a : Fin 128) (o : Fin 1024) : k0_pay57 (F := Ideal) x y (ix2 a o) = x (ix4 0 0 a o) + y (ix4 0 0 a o) := by
  unfold k0_pay57
  pointwise
theorem finT_apply (x y : FVec Ideal S1x1x128x1024 .bf16) (a : Fin 128) (o : Fin 1024) : k0_pay58 (F := Ideal) x y (ix4 0 0 a o) = x (ix4 0 0 a o) + y (ix4 0 0 a o) := by
  unfold k0_pay58 k0_pay57
  pointwise
theorem extV_apply (x : FVec Ideal S1x1x128x1024 .bf16) (a : Fin 128) (o : Fin 1024) : k0_pay65 (F := Ideal) x (ix2 a o) = x (ix4 0 0 a o) := by
  unfold k0_pay65
  pointwise

/-! ## What the kernel reads -/

/-- Row `a` of chunk `q` of ring `r`, in the whole array. -/
def row (r : Fin 2) (q : Fin 4) (a : Fin 256) : Fin 2048 := ⟨1024 * r.val + 256 * q.val + a.val, by omega⟩

theorem xV_apply (c : Dev nD) (r : Fin 2) (q : Fin 4) (a : Fin 256) (d : Fin 512) :
    xV m ρ c r q (ix2 a d) = m ((c : Thread nD τ).loc main_arg0) (ix2 (row r q a) d) := by
  refine congrArg (m ((c : Thread nD τ).loc main_arg0)) (funext fun b => Fin.ext ?_)
  match b with
  | ⟨0, _⟩ => show 0 * 2048 + 1 * (1024 * r.val + 256 * q.val + 1 * a.val) = 1024 * r.val + 256 * q.val + a.val; omega
  | ⟨1, _⟩ => show 0 * 512 + 1 * (0 + 1 * d.val) = d.val; omega
theorem iV_apply (c : Dev nD) (r : Fin 2) (q : Fin 4) (a : Fin 256) :
    iV m ρ c r q (ix2 a 0) = m ((c : Thread nD τ).loc main_arg2) (ix2 (row r q a) 0) := by
  refine congrArg (m ((c : Thread nD τ).loc main_arg2)) (funext fun b => Fin.ext ?_)
  match b with
  | ⟨0, _⟩ => show 0 * 2048 + 1 * (1024 * r.val + 256 * q.val + 1 * a.val) = 1024 * r.val + 256 * q.val + a.val; omega
  | ⟨1, _⟩ => show 0 + (0 + 0 * 1) * 1 = 0; omega
theorem wV_apply (c : Dev nD) (j : Fin 4) (d : Fin 512) (o : Fin 1024) :
    wV m ρ c j (ix3 0 d o) = m ((c : Thread nD τ).loc main_arg3) (ix3 j d o) := by
  refine congrArg (m ((c : Thread nD τ).loc main_arg3)) (funext fun b => Fin.ext ?_)
  match b with
  | ⟨0, _⟩ => show 0 * 4 + 1 * (j.val + 1 * 0) = j.val; omega
  | ⟨1, _⟩ => show 0 * 512 + 1 * (0 + 1 * d.val) = d.val; omega
  | ⟨2, _⟩ => show 0 * 1024 + 1 * (0 + 1 * o.val) = o.val; omega

theorem tiles : Layout.Tiles S4x512x1024 S16x512x1024 0 4 := by decide

/-- Expert `j` of device `c`, among all. -/
def exp (c : Fin 4) (j : Fin 4) : Fin 16 := ⟨4 * c.val + j.val, by omega⟩

theorem num_eq (c : Dev nD) (j : Fin 4) : num (vdev c) (BitVec.ofNat 32 j.val) = BitVec.ofNat 32 (exp c j).val := by
  revert c j; decide

theorem block_w (W : S16x512x1024.Idx → EReal) (c j : Fin 4) (d : Fin 512) (o : Fin 1024) :
    Layout.block S4x512x1024 S16x512x1024 0 4 c W tiles (ix3 j d o) = W (ix3 (exp c j) d o) := by
  rw [Layout.block_apply]
  refine congrArg W (funext fun b => Fin.ext ?_)
  rw [Layout.Tiles.idx_val]
  match b with
  | ⟨0, _⟩ => show c.val * 4 + j.val = 4 * c.val + j.val; omega
  | ⟨1, _⟩ => rfl
  | ⟨2, _⟩ => rfl

/-- Row `a` of half `u` of chunk `q` of ring `r`, in the whole array. -/
def hrow (r : Fin 2) (q : Fin 4) (u : Fin 2) (a : Fin 128) : Fin 2048 := ⟨1024 * r.val + 256 * q.val + (128 * u.val + a.val), by omega⟩

theorem loc4c_eq (a : Fin 256) (o : Fin 1024) : loc4c a o = ix4 0 0 a o := by
  funext b; match b with | ⟨0, _⟩ => rfl | ⟨1, _⟩ => rfl | ⟨2, _⟩ => rfl | ⟨3, _⟩ => rfl
theorem loc2_eq (a : Fin 128) (o : Fin 1024) : loc2 a o = ix2 a o := by
  funext b; match b with | ⟨0, _⟩ => rfl | ⟨1, _⟩ => rfl

/-! ## The sum around the ring -/

theorem ring_sum (g : Dev nD → EReal) (r : Fin 2) (q : Dev nD) : g (rot r 3 q) + (g (rot r 2 q) + (g (rot r 1 q) + g q)) = ∑ c, g c := by
  have h : (Finset.univ : Finset (Dev nD)) = {rot r 3 q, rot r 2 q, rot r 1 q, q} := by revert r q; decide
  rw [h, Finset.sum_insert (by revert r q; decide), Finset.sum_insert (by revert r q; decide), Finset.sum_insert (by revert r q; decide), Finset.sum_singleton]

theorem sum_exp (f : Fin 16 → EReal) : ∑ c : Fin 4, (f (exp c 0) + f (exp c 1) + f (exp c 2) + f (exp c 3)) = ∑ k, f k := by
  simp only [Fin.sum_univ_succ, Fin.sum_univ_zero, add_zero, add_assoc]
  rfl

section
variable (X : S2048x512.Idx → EReal) (E : S2048x1.Idx → BitVec 32) (W : S16x512x1024.Idx → EReal)

/-- What device `c`'s four experts add to the result at a place. -/
def own (c : Dev nD) (t : Fin 2048) (o : Fin 1024) : EReal :=
  part X E W (exp c 0) t o + part X E W (exp c 1) t o + part X E W (exp c 2) t o + part X E W (exp c 3) t o

variable (hX : ∀ c : Dev nD, m ((c : Thread nD τ).loc main_arg0) = X) (hE : ∀ c : Dev nD, m ((c : Thread nD τ).loc main_arg2) = E)
  (hW : ∀ c : Dev nD, m ((c : Thread nD τ).loc main_arg3) = Layout.block S4x512x1024 S16x512x1024 0 4 c W tiles)
include hX hE hW

theorem one_eq (c : Dev nD) (r : Fin 2) (q : Fin 4) (j : Fin 4) (a : Fin 256) (o : Fin 1024) :
    one (num (vdev c) (BitVec.ofNat 32 j.val)) (xV m ρ c r q) (iV m ρ c r q) (slab m ρ c j) a o = part X E W (exp c j) (row r q a) o := by
  unfold one Cert.ReferenceIdeal.Moe.part
  refine Finset.sum_congr rfl fun d _ => ?_
  rw [num_eq, iV_apply, xV_apply, show slab m ρ c j (ix3 0 d o) = _ from pay1_apply _ d o, wV_apply, hX, hE, hW, block_w]

theorem chunkAt_apply (c : Dev nD) (r : Fin 2) (q : Fin 4) (a : Fin 256) (o : Fin 1024) :
    chunkAt m ρ c r q (ix4 0 0 a o) = own X E W c (row r q a) o := by
  unfold chunkAt own
  rw [chunkV_apply]
  exact congrArg₂ _ (congrArg₂ _ (congrArg₂ _ (one_eq m ρ X E W hX hE hW c r q 0 a o) (one_eq m ρ X E W hX hE hW c r q 1 a o))
    (one_eq m ρ X E W hX hE hW c r q 2 a o)) (one_eq m ρ X E W hX hE hW c r q 3 a o)

theorem half_apply (c : Dev nD) (r : Fin 2) (q : Fin 4) (u : Fin 2) (a : Fin 128) (o : Fin 1024) :
    half m ρ c r q u (ix4 0 0 a o) = own X E W c (hrow r q u a) o := by
  show chunkAt m ρ c r q (loc4c ⟨128 * u.val + a.val, by omega⟩ o) = _
  exact (congrArg (chunkAt m ρ c r q) (loc4c_eq ⟨128 * u.val + a.val, by omega⟩ o)).trans (chunkAt_apply m ρ X E W hX hE hW c r q ⟨128 * u.val + a.val, by omega⟩ o)

theorem V2_apply (r : Fin 2) (q : Fin 4) (u : Fin 2) (a : Fin 128) (o : Fin 1024) : V2 m ρ r q u (ix4 0 0 a o)
    = own X E W (rot r 2 q) (hrow r q u a) o + (own X E W (rot r 1 q) (hrow r q u a) o + own X E W q (hrow r q u a) o) := by
  unfold V2 V1 V0
  rw [show addV _ _ (ix4 0 0 a o) = _ from addV_apply _ _ a o, show addV _ _ (ix4 0 0 a o) = _ from addV_apply _ _ a o]
  simp only [half_apply m ρ X E W hX hE hW]

theorem outB_apply (c : Dev nD) (r : Fin 2) (q : Fin 4) (u : Fin 2) (a : Fin 128) (o : Fin 1024) :
    outB m ρ c r q u (ix2 a o) = ∑ k, part X E W k (hrow r q u a) o := by
  rw [← sum_exp fun k => part X E W k (hrow r q u a) o]
  refine Eq.trans ?_ (ring_sum (fun c => own X E W c (hrow r q u a) o) r q)
  unfold outB
  split
  · rename_i h
    have hc : rot r 3 q = c := by rw [h]; exact bwd_fwd r c
    rw [show finV _ _ (ix2 a o) = _ from finV_apply _ _ a o, half_apply m ρ X E W hX hE hW, V2_apply m ρ X E W hX hE hW, hc]
  · rw [show extV _ (ix2 a o) = _ from extV_apply _ a o]
    unfold V3
    rw [show finT _ _ (ix4 0 0 a o) = _ from finT_apply _ _ a o, half_apply m ρ X E W hX hE hW, V2_apply m ρ X E W hX hE hW]

/-- The result on every device: at each place the sum over all sixteen experts. -/
theorem outF_apply (c : Dev nD) (t : Fin 2048) (o : Fin 1024) : outF m ρ c (ix2 t o) = ∑ k, part X E W k t o := by
  show outB m ρ c ⟨t.val / 1024, by omega⟩ ⟨t.val % 1024 / 256, by omega⟩ ⟨t.val % 256 / 128, by omega⟩ (loc2 ⟨t.val % 128, Nat.mod_lt _ (by decide)⟩ o) = _
  refine (congrArg (outB m ρ c _ _ _) (loc2_eq _ _)).trans ?_
  refine (outB_apply m ρ X E W hX hE hW c _ _ _ _ _).trans ?_
  refine congrArg (fun t => ∑ k, part X E W k t o) (Fin.ext ?_)
  show 1024 * (t.val / 1024) + 256 * (t.val % 1024 / 256) + (128 * (t.val % 256 / 128) + t.val % 128) = t.val
  omega

end

/-! ## What the result array ends holding -/

theorem finalA_3 (c : Dev nD) : finalA m ρ c (3 : Fin 4) = outF m ρ c := by
  have h : (win0_3.blk (0 : Fin 1)).view.read (Elt Ideal) (finalA m ρ c (3 : Fin 4)) = outF m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  refine Eq.trans ?_ h
  funext i
  refine congrArg (finalA m ρ c (3 : Fin 4)) (funext fun b => Fin.ext ?_)
  match b with
  | ⟨0, _⟩ => show (i 0).val = 0 * 2048 + 1 * (i 0).val; omega
  | ⟨1, _⟩ => show (i 1).val = 0 * 1024 + 1 * (i 1).val; omega

end Cert.KernelIdeal.Moe

end
-- ==== Proof.lean ====
module

public import proofs.«01_k».proof.Defs
public import proofs.«01_k».proof.Proof.Region
public import proofs.«01_k».proof.Proof.KRegion
public import proofs.«01_k».proof.Proof.Value
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := fun m ρ _ => Cert.Kernel.Moe.frame_run (F := Bits) m ρ
theorem frame_kernelIdeal : Cert.quiescent_KernelIdeal := fun m ρ _ => Cert.KernelIdeal.Moe.frame_run (F := Ideal) m ρ

/-- The reference runs on one device with no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result on every device is the reference's: at each place both are the sum over all experts of the row's
    product with the expert's matrix, the row taken as zero for the experts it is not sent to. -/
theorem algebraic : Cert.algebraic_KernelIdeal_ReferenceIdeal := by
  intro m g m' g' _ hag
  have hX := fun c => (hag c).1
  have hE := fun c => (hag c).2.2.1
  have hW := fun c => (hag c).2.2.2
  refine ⟨_, ?_, (θ_run Cert.ReferenceIdeal.defs _ _).mono (fun r h => h 0) (Cert.ReferenceIdeal.Value.run (F := Ideal) m' g')⟩
  refine (θ_run Cert.KernelIdeal.defs _ _).mono (fun r h c => ⟨?_, ((h.1 c).1 0).trans (Cert.KernelIdeal.Moe.finalA_0 m g c), (h.1 c).2,
    ((h.1 c).1 1).trans (Cert.KernelIdeal.Moe.finalA_1 m g c), ((h.1 c).1 2).trans (Cert.KernelIdeal.Moe.finalA_2 m g c)⟩)
    (Cert.KernelIdeal.Moe.run_main (F := Ideal) m g)
  refine (((h.1 c).1 3).trans (Cert.KernelIdeal.Moe.finalA_3 m g c)).trans ?_
  rw [Cert.ReferenceIdeal.Moe.idx_eq]
  funext i
  obtain ⟨t, o, rfl⟩ : ∃ (t : Fin 2048) (o : Fin 1024), i = ix2 t o := ⟨i 0, i 1, eq_ix2 i⟩
  refine (Cert.KernelIdeal.Moe.outF_apply m g _ _ _ hX hE hW c t o).trans ?_
  exact (Cert.ReferenceIdeal.Moe.reference_apply _ _ _ t o).symm

theorem claim : Cert.Claim := ⟨Cert.Kernel.Gen.facts, Cert.KernelIdeal.Gen.facts, Cert.ReferenceIdeal.Gen.facts,
  frame_kernel, frame_kernelIdeal, frame_reference, trivial, algebraic⟩

end Cert.Proof

end
